-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x768x16x196 : Shape := ⟨4, ![16, 768, 16, 196]⟩
abbrev S_ : Shape := ⟨0, ![]⟩

class Facts : Prop where
  bcast_S_S16x768x16x196 : S_.BroadcastsInDim S16x768x16x196 (![] : Fin 0 → Fin S16x768x16x196.rank)
  reducesTo_S16x768x16x196_S_d0_1_2_3 : S16x768x16x196.ReducesTo [0, 1, 2, 3] S_
  h_S_ : 0 < S_.numel

variable [Facts]

def fn {F : FTy → Type} [FloatOps F] (main_arg0 : FVec F S16x768x16x196 .f32) : IVec S_ 1 :=
  let main_v0 : FVec F S16x768x16x196 .f32 := Host.absf main_arg0
  let main_cst : FVec F S_ .f32 := constant S_ .f32 0x7F800000#32
  let main_v1 : FVec F S16x768x16x196 .f32 := broadcastInDim S16x768x16x196 ![] bcast_S_S16x768x16x196 main_cst
  let main_v2 : IVec S16x768x16x196 1 := cmpf .olt main_v0 main_v1
  let main_c : IVec S_ 1 := constantI S_ 1 1#1
  let main_v3 : IVec S_ 1 := (fun x v => Host.reduce IntOp.andi x v reducesTo_S16x768x16x196_S_d0_1_2_3 h_S_) main_v2 main_c
  main_v3
-- ==== Kernel.lean ====
abbrev S16x768x16x196 : Shape := ⟨4, ![16, 768, 16, 196]⟩
abbrev S16x1x16 : Shape := ⟨3, ![16, 1, 16]⟩
abbrev S1x128x16x196 : Shape := ⟨4, ![1, 128, 16, 196]⟩
abbrev S1x1x16 : Shape := ⟨3, ![1, 1, 16]⟩
abbrev S128x16x196 : Shape := ⟨3, ![128, 16, 196]⟩
abbrev S128x196 : Shape := ⟨2, ![128, 196]⟩
abbrev S128x195 : Shape := ⟨2, ![128, 195]⟩
abbrev S128x1 : Shape := ⟨2, ![128, 1]⟩
abbrev S128x182 : Shape := ⟨2, ![128, 182]⟩
abbrev S128x14 : Shape := ⟨2, ![128, 14]⟩
abbrev S128x1x196 : Shape := ⟨3, ![128, 1, 196]⟩
abbrev S16 : Shape := ⟨1, ![16]⟩
abbrev S1x16 : Shape := ⟨2, ![1, 16]⟩
abbrev S16x16 : Shape := ⟨2, ![16, 16]⟩
abbrev S16x1 : Shape := ⟨2, ![16, 1]⟩
abbrev S256 : Shape := ⟨1, ![256]⟩
abbrev S16x768x8x196 : Shape := ⟨4, ![16, 768, 8, 196]⟩
abbrev S1x128x8x196 : Shape := ⟨4, ![1, 128, 8, 196]⟩
abbrev S1 : Shape := ⟨1, ![1]⟩
abbrev S1x128x1x196 : Shape := ⟨4, ![1, 128, 1, 196]⟩

abbrev nBuf : Space → Nat
  | .hbm => 8
  | .vmem => 14
  | .smem => 2
  | _ => 0

abbrev bufTy : (tb : Table) → Fin (tcTables nBuf tb) → BufTy
  | .hbm, ⟨0, _⟩ => ⟨S16x768x16x196, .f32⟩
  | .hbm, ⟨1, _⟩ => ⟨S16x1x16, .f32⟩
  | .hbm, ⟨2, _⟩ => ⟨S16x1x16, .i32⟩
  | .hbm, ⟨3, _⟩ => ⟨S16x1x16, .i32⟩
  | .hbm, ⟨4, _⟩ => ⟨S256, .i32⟩
  | .hbm, ⟨5, _⟩ => ⟨S256, .i32⟩
  | .hbm, ⟨6, _⟩ => ⟨S16x768x8x196, .f32⟩
  | .hbm, ⟨7, _⟩ => ⟨S16x768x8x196, .f32⟩
  | .local _ .vmem, ⟨0, _⟩ => ⟨S1x128x16x196, .f32⟩
  | .local _ .vmem, ⟨1, _⟩ => ⟨S1x128x16x196, .f32⟩
  | .local _ .vmem, ⟨2, _⟩ => ⟨S1x1x16, .f32⟩
  | .local _ .vmem, ⟨3, _⟩ => ⟨S1x1x16, .f32⟩
  | .local _ .vmem, ⟨4, _⟩ => ⟨S1x1x16, .i32⟩
  | .local _ .vmem, ⟨5, _⟩ => ⟨S1x1x16, .i32⟩
  | .local _ .vmem, ⟨6, _⟩ => ⟨S1x1x16, .i32⟩
  | .local _ .vmem, ⟨7, _⟩ => ⟨S1x1x16, .i32⟩
  | .local _ .vmem, ⟨8, _⟩ => ⟨S1x128x16x196, .f32⟩
  | .local _ .vmem, ⟨9, _⟩ => ⟨S1x128x16x196, .f32⟩
  | .local _ .vmem, ⟨10, _⟩ => ⟨S1x128x8x196, .f32⟩
  | .local _ .vmem, ⟨11, _⟩ => ⟨S1x128x8x196, .f32⟩
  | .local _ .vmem, ⟨12, _⟩ => ⟨S1x128x8x196, .f32⟩
  | .local _ .vmem, ⟨13, _⟩ => ⟨S1x128x8x196, .f32⟩
  | .local _ .smem, ⟨0, _⟩ => ⟨S256, .i32⟩
  | .local _ .smem, ⟨1, _⟩ => ⟨S256, .i32⟩
  | _, _ => ⟨S16x768x16x196, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg1_0 : Ref sig .tc := ⟨.smem, 0, rfl⟩
abbrev cc1_stg2_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32_28 : BitVec 32 := 0#32
  let v102 : BitVec 1 := Scalar.cmpi .eq arg1 c0_i32_28
  let v103 : BitVec 32 := Scalar.extui v102
  let c0_i32_29 : BitVec 32 := 0#32
  let v104 : BitVec 1 := Scalar.cmpi .ne v103 c0_i32_29
  v104

def k0_cond2 (i : grid0.Coords) : BitVec 1 :=
  let arg1 : BitVec 32 := BitVec.ofNat 32 (i 1).val
  let c0_i32_30 : BitVec 32 := 0#32
  let v105 : BitVec 1 := Scalar.cmpi .ne arg1 c0_i32_30
  let v106 : BitVec 32 := Scalar.extui v105
  let c0_i32_31 : BitVec 32 := 0#32
  let v107 : BitVec 1 := Scalar.cmpi .ne v106 c0_i32_31
  v107

def k0_cond3 (i : grid0.Coords) : BitVec 1 :=
  let arg1 : BitVec 32 := BitVec.ofNat 32 (i 1).val
  let c5_i32 : BitVec 32 := 5#32
  let v108 : BitVec 1 := Scalar.cmpi .eq arg1 c5_i32
  let v109 : BitVec 32 := Scalar.extui v108
  let c0_i32_32 : BitVec 32 := 0#32
  let v110 : BitVec 1 := Scalar.cmpi .ne v109 c0_i32_32
  v110

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 6], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k1_off2 (v3 : BitVec 32) : Fin 4 → Nat :=
  let c0 : Index := 0#32
  let c0_2 : Index := 0#32
  let v8 : Index := Scalar.indexCast v3
  let c0_3 : Index := 0#32
  ![0, 0, v8.toNat, 0]

def k1_chk1 (v3 : BitVec 32) : Prop :=
  (∀ a, (k1_off2 v3) a + S1x128x1x196.size a ≤ S1x128x16x196.size a)
theorem k1_off2_inb : ∀ (v3 : BitVec 32) (k1_hw1 : k1_chk1 v3), ∀ a, (k1_off2 v3) a + S1x128x1x196.size a ≤ S1x128x16x196.size a := fun v3 k1_hw1 => k1_hw1

def k1_off3 (v7 : BitVec 32) : Fin 4 → Nat :=
  let c0_8 : Index := 0#32
  let c0_9 : Index := 0#32
  let v14 : Index := Scalar.indexCast v7
  let c0_10 : Index := 0#32
  ![0, 0, v14.toNat, 0]

def k1_chk2 (v7 : BitVec 32) : Prop :=
  (∀ a, (k1_off3 v7) a + S1x128x1x196.size a ≤ S1x128x16x196.size a)
theorem k1_off3_inb : ∀ (v7 : BitVec 32) (k1_hw2 : k1_chk2 v7), ∀ a, (k1_off3 v7) a + S1x128x1x196.size a ≤ S1x128x16x196.size a := fun v7 k1_hw2 => k1_hw2

def k1_off4 (i : grid1.Coords) : Fin 1 → Nat :=
  let arg0 : BitVec 32 := BitVec.ofNat 32 (i 0).val
  let c16_i32_15 : BitVec 32 := 16#32
  let v20 : BitVec 32 := Scalar.muli arg0 c16_i32_15
  let c1_i32 : BitVec 32 := 1#32
  let v21 : BitVec 32 := Scalar.addi v20 c1_i32
  let v22 : Index := Scalar.indexCast v21
  ![v22.toNat]
def k1_off5 (v23 : BitVec 32) : Fin 4 → Nat :=
  let c0_18 : Index := 0#32
  let c0_19 : Index := 0#32
  let v28 : Index := Scalar.indexCast v23
  let c0_20 : Index := 0#32
  ![0, 0, v28.toNat, 0]

def k1_chk3 (v23 : BitVec 32) : Prop :=
  (∀ a, (k1_off5 v23) a + S1x128x1x196.size a ≤ S1x128x16x196.size a)
theorem k1_off5_inb : ∀ (v23 : BitVec 32) (k1_hw3 : k1_chk3 v23), ∀ a, (k1_off5 v23) a + S1x128x1x196.size a ≤ S1x128x16x196.size a := fun v23 k1_hw3 => k1_hw3

def k1_off6 (v27 : BitVec 32) : Fin 4 → Nat :=
  let c0_24 : Index := 0#32
  let c0_25 : Index := 0#32
  let v34 : Index := Scalar.indexCast v27
  let c0_26 : Index := 0#32
  ![0, 0, v34.toNat, 0]

def k1_chk4 (v27 : BitVec 32) : Prop :=
  (∀ a, (k1_off6 v27) a + S1x128x1x196.size a ≤ S1x128x16x196.size a)
theorem k1_off6_inb : ∀ (v27 : BitVec 32) (k1_hw4 : k1_chk4 v27), ∀ a, (k1_off6 v27) a + S1x128x1x196.size a ≤ S1x128x16x196.size a := fun v27 k1_hw4 => k1_hw4

def k1_off7 (i : grid1.Coords) : Fin 1 → Nat :=
  let arg0 : BitVec 32 := BitVec.ofNat 32 (i 0).val
  let c16_i32_31 : BitVec 32 := 16#32
  let v40 : BitVec 32 := Scalar.muli arg0 c16_i32_31
  let c2_i32 : BitVec 32 := 2#32
  let v41 : BitVec 32 := Scalar.addi v40 c2_i32
  let v42 : Index := Scalar.indexCast v41
  ![v42.toNat]
def k1_off8 (v43 : BitVec 32) : Fin 4 → Nat :=
  let c0_34 : Index := 0#32
  let c0_35 : Index := 0#32
  let v48 : Index := Scalar.indexCast v43
  let c0_36 : Index := 0#32
  ![0, 0, v48.toNat, 0]

def k1_chk5 (v43 : BitVec 32) : Prop :=
  (∀ a, (k1_off8 v43) a + S1x128x1x196.size a ≤ S1x128x16x196.size a)
theorem k1_off8_inb : ∀ (v43 : BitVec 32) (k1_hw5 : k1_chk5 v43), ∀ a, (k1_off8 v43) a + S1x128x1x196.size a ≤ S1x128x16x196.size a := fun v43 k1_hw5 => k1_hw5

def k1_off9 (v47 : BitVec 32) : Fin 4 → Nat :=
  let c0_40 : Index := 0#32
  let c0_41 : Index := 0#32
  let v54 : Index := Scalar.indexCast v47
  let c0_42 : Index := 0#32
  ![0, 0, v54.toNat, 0]

def k1_chk6 (v47 : BitVec 32) : Prop :=
  (∀ a, (k1_off9 v47) a + S1x128x1x196.size a ≤ S1x128x16x196.size a)
theorem k1_off9_inb : ∀ (v47 : BitVec 32) (k1_hw6 : k1_chk6 v47), ∀ a, (k1_off9 v47) a + S1x128x1x196.size a ≤ S1x128x16x196.size a := fun v47 k1_hw6 => k1_hw6

def k1_off10 (i : grid1.Coords) : Fin 1 → Nat :=
  let arg0 : BitVec 32 := BitVec.ofNat 32 (i 0).val
  let c16_i32_47 : BitVec 32 := 16#32
  let v60 : BitVec 32 := Scalar.muli arg0 c16_i32_47
  let c3_i32 : BitVec 32 := 3#32
  let v61 : BitVec 32 := Scalar.addi v60 c3_i32
  let v62 : Index := Scalar.indexCast v61
  ![v62.toNat]
def k1_off11 (v63 : BitVec 32) : Fin 4 → Nat :=
  let c0_50 : Index := 0#32
  let c0_51 : Index := 0#32
  let v68 : Index := Scalar.indexCast v63
  let c0_52 : Index := 0#32
  ![0, 0, v68.toNat, 0]

def k1_chk7 (v63 : BitVec 32) : Prop :=
  (∀ a, (k1_off11 v63) a + S1x128x1x196.size a ≤ S1x128x16x196.size a)
theorem k1_off11_inb : ∀ (v63 : BitVec 32) (k1_hw7 : k1_chk7 v63), ∀ a, (k1_off11 v63) a + S1x128x1x196.size a ≤ S1x128x16x196.size a := fun v63 k1_hw7 => k1_hw7

def k1_off12 (v67 : BitVec 32) : Fin 4 → Nat :=
  let c0_56 : Index := 0#32
  let c0_57 : Index := 0#32
  let v74 : Index := Scalar.indexCast v67
  let c0_58 : Index := 0#32
  ![0, 0, v74.toNat, 0]

def k1_chk8 (v67 : BitVec 32) : Prop :=
  (∀ a, (k1_off12 v67) a + S1x128x1x196.size a ≤ S1x128x16x196.size a)
theorem k1_off12_inb : ∀ (v67 : BitVec 32) (k1_hw8 : k1_chk8 v67), ∀ a, (k1_off12 v67) a + S1x128x1x196.size a ≤ S1x128x16x196.size a := fun v67 k1_hw8 => k1_hw8

def k1_off13 (i : grid1.Coords) : Fin 1 → Nat :=
  let arg0 : BitVec 32 := BitVec.ofNat 32 (i 0).val
  let c16_i32_63 : BitVec 32 := 16#32
  let v80 : BitVec 32 := Scalar.muli arg0 c16_i32_63
  let c4_i32 : BitVec 32 := 4#32
  let v81 : BitVec 32 := Scalar.addi v80 c4_i32
  let v82 : Index := Scalar.indexCast v81
  ![v82.toNat]
def k1_off14 (v83 : BitVec 32) : Fin 4 → Nat :=
  let c0_66 : Index := 0#32
  let c0_67 : Index := 0#32
  let v88 : Index := Scalar.indexCast v83
  let c0_68 : Index := 0#32
  ![0, 0, v88.toNat, 0]

def k1_chk9 (v83 : BitVec 32) : Prop :=
  (∀ a, (k1_off14 v83) a + S1x128x1x196.size a ≤ S1x128x16x196.size a)
theorem k1_off14_inb : ∀ (v83 : BitVec 32) (k1_hw9 : k1_chk9 v83), ∀ a, (k1_off14 v83) a + S1x128x1x196.size a ≤ S1x128x16x196.size a := fun v83 k1_hw9 => k1_hw9

def k1_off15 (v87 : BitVec 32) : Fin 4 → Nat :=
  let c0_72 : Index := 0#32
  let c0_73 : Index := 0#32
  let v94 : Index := Scalar.indexCast v87
  let c0_74 : Index := 0#32
  ![0, 0, v94.toNat, 0]

def k1_chk10 (v87 : BitVec 32) : Prop :=
  (∀ a, (k1_off15 v87) a + S1x128x1x196.size a ≤ S1x128x16x196.size a)
theorem k1_off15_inb : ∀ (v87 : BitVec 32) (k1_hw10 : k1_chk10 v87), ∀ a, (k1_off15 v87) a + S1x128x1x196.size a ≤ S1x128x16x196.size a := fun v87 k1_hw10 => k1_hw10

def k1_off16 (i : grid1.Coords) : Fin 1 → Nat :=
  let arg0 : BitVec 32 := BitVec.ofNat 32 (i 0).val
  let c16_i32_79 : BitVec 32 := 16#32
  let v100 : BitVec 32 := Scalar.muli arg0 c16_i32_79
  let c5_i32 : BitVec 32 := 5#32
  let v101 : BitVec 32 := Scalar.addi v100 c5_i32
  let v102 : Index := Scalar.indexCast v101
  ![v102.toNat]
def k1_off17 (v103 : BitVec 32) : Fin 4 → Nat :=
  let c0_82 : Index := 0#32
  let c0_83 : Index := 0#32
  let v108 : Index := Scalar.indexCast v103
  let c0_84 : Index := 0#32
  ![0, 0, v108.toNat, 0]

def k1_chk11 (v103 : BitVec 32) : Prop :=
  (∀ a, (k1_off17 v103) a + S1x128x1x196.size a ≤ S1x128x16x196.size a)
theorem k1_off17_inb : ∀ (v103 : BitVec 32) (k1_hw11 : k1_chk11 v103), ∀ a, (k1_off17 v103) a + S1x128x1x196.size a ≤ S1x128x16x196.size a := fun v103 k1_hw11 => k1_hw11

def k1_off18 (v107 : BitVec 32) : Fin 4 → Nat :=
  let c0_88 : Index := 0#32
  let c0_89 : Index := 0#32
  let v114 : Index := Scalar.indexCast v107
  let c0_90 : Index := 0#32
  ![0, 0, v114.toNat, 0]

def k1_chk12 (v107 : BitVec 32) : Prop :=
  (∀ a, (k1_off18 v107) a + S1x128x1x196.size a ≤ S1x128x16x196.size a)
theorem k1_off18_inb : ∀ (v107 : BitVec 32) (k1_hw12 : k1_chk12 v107), ∀ a, (k1_off18 v107) a + S1x128x1x196.size a ≤ S1x128x16x196.size a := fun v107 k1_hw12 => k1_hw12

def k1_off19 (i : grid1.Coords) : Fin 1 → Nat :=
  let arg0 : BitVec 32 := BitVec.ofNat 32 (i 0).val
  let c16_i32_95 : BitVec 32 := 16#32
  let v120 : BitVec 32 := Scalar.muli arg0 c16_i32_95
  let c6_i32 : BitVec 32 := 6#32
  let v121 : BitVec 32 := Scalar.addi v120 c6_i32
  let v122 : Index := Scalar.indexCast v121
  ![v122.toNat]
def k1_off20 (v123 : BitVec 32) : Fin 4 → Nat :=
  let c0_98 : Index := 0#32
  let c0_99 : Index := 0#32
  let v128 : Index := Scalar.indexCast v123
  let c0_100 : Index := 0#32
  ![0, 0, v128.toNat, 0]

def k1_chk13 (v123 : BitVec 32) : Prop :=
  (∀ a, (k1_off20 v123) a + S1x128x1x196.size a ≤ S1x128x16x196.size a)
theorem k1_off20_inb : ∀ (v123 : BitVec 32) (k1_hw13 : k1_chk13 v123), ∀ a, (k1_off20 v123) a + S1x128x1x196.size a ≤ S1x128x16x196.size a := fun v123 k1_hw13 => k1_hw13

def k1_off21 (v127 : BitVec 32) : Fin 4 → Nat :=
  let c0_104 : Index := 0#32
  let c0_105 : Index := 0#32
  let v134 : Index := Scalar.indexCast v127
  let c0_106 : Index := 0#32
  ![0, 0, v134.toNat, 0]

def k1_chk14 (v127 : BitVec 32) : Prop :=
  (∀ a, (k1_off21 v127) a + S1x128x1x196.size a ≤ S1x128x16x196.size a)
theorem k1_off21_inb : ∀ (v127 : BitVec 32) (k1_hw14 : k1_chk14 v127), ∀ a, (k1_off21 v127) a + S1x128x1x196.size a ≤ S1x128x16x196.size a := fun v127 k1_hw14 => k1_hw14

def k1_off22 (i : grid1.Coords) : Fin 1 → Nat :=
  let arg0 : BitVec 32 := BitVec.ofNat 32 (i 0).val
  let c16_i32_111 : BitVec 32 := 16#32
  let v140 : BitVec 32 := Scalar.muli arg0 c16_i32_111
  let c7_i32 : BitVec 32 := 7#32
  let v141 : BitVec 32 := Scalar.addi v140 c7_i32
  let v142 : Index := Scalar.indexCast v141
  ![v142.toNat]
def k1_off23 (v143 : BitVec 32) : Fin 4 → Nat :=
  let c0_114 : Index := 0#32
  let c0_115 : Index := 0#32
  let v148 : Index := Scalar.indexCast v143
  let c0_116 : Index := 0#32
  ![0, 0, v148.toNat, 0]

def k1_chk15 (v143 : BitVec 32) : Prop :=
  (∀ a, (k1_off23 v143) a + S1x128x1x196.size a ≤ S1x128x16x196.size a)
theorem k1_off23_inb : ∀ (v143 : BitVec 32) (k1_hw15 : k1_chk15 v143), ∀ a, (k1_off23 v143) a + S1x128x1x196.size a ≤ S1x128x16x196.size a := fun v143 k1_hw15 => k1_hw15

def k1_off24 (v147 : BitVec 32) : Fin 4 → Nat :=
  let c0_120 : Index := 0#32
  let c0_121 : Index := 0#32
  let v154 : Index := Scalar.indexCast v147
  let c0_122 : Index := 0#32
  ![0, 0, v154.toNat, 0]

def k1_chk16 (v147 : BitVec 32) : Prop :=
  (∀ a, (k1_off24 v147) a + S1x128x1x196.size a ≤ S1x128x16x196.size a)
theorem k1_off24_inb : ∀ (v147 : BitVec 32) (k1_hw16 : k1_chk16 v147), ∀ a, (k1_off24 v147) a + S1x128x1x196.size a ≤ S1x128x16x196.size a := fun v147 k1_hw16 => k1_hw16

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x16x196 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .smem S256 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x8x196 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x8x196 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S16x768x16x196 : Shape := ⟨4, ![16, 768, 16, 196]⟩
abbrev S2 : Shape := ⟨1, ![2]⟩
abbrev S16x768x16x14x14 : Shape := ⟨5, ![16, 768, 16, 14, 14]⟩
abbrev S16x16x768x14x14 : Shape := ⟨5, ![16, 16, 768, 14, 14]⟩
abbrev S16x16x768x7x2x7x2 : Shape := ⟨7, ![16, 16, 768, 7, 2, 7, 2]⟩
abbrev S_ : Shape := ⟨0, ![]⟩
abbrev S16x16x768x7x7 : Shape := ⟨5, ![16, 16, 768, 7, 7]⟩
abbrev S16x16x7x7x768 : Shape := ⟨5, ![16, 16, 7, 7, 768]⟩
abbrev S16x16x37632 : Shape := ⟨3, ![16, 16, 37632]⟩
abbrev S16x37632x16 : Shape := ⟨3, ![16, 37632, 16]⟩
abbrev S16x16x16 : Shape := ⟨3, ![16, 16, 16]⟩
abbrev S16x16 : Shape := ⟨2, ![16, 16]⟩
abbrev S1x2 : Shape := ⟨2, ![1, 2]⟩
abbrev S8x2 : Shape := ⟨2, ![8, 2]⟩
abbrev S16 : Shape := ⟨1, ![16]⟩
abbrev S1x16 : Shape := ⟨2, ![1, 16]⟩
abbrev S16x8 : Shape := ⟨2, ![16, 8]⟩
abbrev S16x16x768x196 : Shape := ⟨4, ![16, 16, 768, 196]⟩
abbrev S16x8x1x1 : Shape := ⟨4, ![16, 8, 1, 1]⟩
abbrev S16x8x1 : Shape := ⟨3, ![16, 8, 1]⟩
abbrev S1 : Shape := ⟨1, ![1]⟩
abbrev S1x1x1 : Shape := ⟨3, ![1, 1, 1]⟩
abbrev S16x8x768x196 : Shape := ⟨4, ![16, 8, 768, 196]⟩
abbrev S16x768x8x196 : Shape := ⟨4, ![16, 768, 8, 196]⟩

abbrev nBuf : Space → Nat
  | .hbm => 86
  | .vmem => 0
  | .smem => 0
  | _ => 0

abbrev bufTy : (tb : Table) → Fin (tcTables nBuf tb) → BufTy
  | .hbm, ⟨0, _⟩ => ⟨S16x768x16x196, .f32⟩
  | .hbm, ⟨1, _⟩ => ⟨S2, .f32⟩
  | .hbm, ⟨2, _⟩ => ⟨S16x768x16x14x14, .f32⟩
  | .hbm, ⟨3, _⟩ => ⟨S16x16x768x14x14, .f32⟩
  | .hbm, ⟨4, _⟩ => ⟨S16x16x768x7x2x7x2, .f32⟩
  | .hbm, ⟨5, _⟩ => ⟨S_, .f32⟩
  | .hbm, ⟨6, _⟩ => ⟨S16x16x768x7x7, .f32⟩
  | .hbm, ⟨7, _⟩ => ⟨S_, .f32⟩
  | .hbm, ⟨8, _⟩ => ⟨S16x16x768x7x7, .f32⟩
  | .hbm, ⟨9, _⟩ => ⟨S16x16x768x7x7, .f32⟩
  | .hbm, ⟨10, _⟩ => ⟨S16x16x7x7x768, .f32⟩
  | .hbm, ⟨11, _⟩ => ⟨S16x16x37632, .f32⟩
  | .hbm, ⟨12, _⟩ => ⟨S_, .f32⟩
  | .hbm, ⟨13, _⟩ => ⟨S16x16x37632, .f32⟩
  | .hbm, ⟨14, _⟩ => ⟨S16x16x37632, .f32⟩
  | .hbm, ⟨15, _⟩ => ⟨S16x37632x16, .f32⟩
  | .hbm, ⟨16, _⟩ => ⟨S16x16x16, .f32⟩
  | .hbm, ⟨17, _⟩ => ⟨S_, .f32⟩
  | .hbm, ⟨18, _⟩ => ⟨S16x16, .f32⟩
  | .hbm, ⟨19, _⟩ => ⟨S_, .f32⟩
  | .hbm, ⟨20, _⟩ => ⟨S16x16, .f32⟩
  | .hbm, ⟨21, _⟩ => ⟨S16x16, .f32⟩
  | .hbm, ⟨22, _⟩ => ⟨S1x2, .f32⟩
  | .hbm, ⟨23, _⟩ => ⟨S8x2, .f32⟩
  | .hbm, ⟨24, _⟩ => ⟨S16, .f32⟩
  | .hbm, ⟨25, _⟩ => ⟨S1x16, .f32⟩
  | .hbm, ⟨26, _⟩ => ⟨S16x16, .f32⟩
  | .hbm, ⟨27, _⟩ => ⟨S16x16, .f32⟩
  | .hbm, ⟨28, _⟩ => ⟨S16x8, .f32⟩
  | .hbm, ⟨29, _⟩ => ⟨S16x8, .i32⟩
  | .hbm, ⟨30, _⟩ => ⟨S16x16, .f32⟩
  | .hbm, ⟨31, _⟩ => ⟨S16x8, .f32⟩
  | .hbm, ⟨32, _⟩ => ⟨S16x8, .i32⟩
  | .hbm, ⟨33, _⟩ => ⟨S16x8, .i32⟩
  | .hbm, ⟨34, _⟩ => ⟨S16x8, .i32⟩
  | .hbm, ⟨35, _⟩ => ⟨S16x16x768x196, .f32⟩
  | .hbm, ⟨36, _⟩ => ⟨S16x8x1x1, .i32⟩
  | .hbm, ⟨37, _⟩ => ⟨S_, .i32⟩
  | .hbm, ⟨38, _⟩ => ⟨S16x8x1x1, .i32⟩
  | .hbm, ⟨39, _⟩ => ⟨S16x8x1x1, .i1⟩
  | .hbm, ⟨40, _⟩ => ⟨S_, .i32⟩
  | .hbm, ⟨41, _⟩ => ⟨S16x8x1x1, .i32⟩
  | .hbm, ⟨42, _⟩ => ⟨S16x8x1x1, .i32⟩
  | .hbm, ⟨43, _⟩ => ⟨S16x8x1x1, .i32⟩
  | .hbm, ⟨44, _⟩ => ⟨S16x8x1, .i32⟩
  | .hbm, ⟨45, _⟩ => ⟨S1, .i32⟩
  | .hbm, ⟨46, _⟩ => ⟨S_, .i32⟩
  | .hbm, ⟨47, _⟩ => ⟨S16x8x1, .i32⟩
  | .hbm, ⟨48, _⟩ => ⟨S16x8x1, .i1⟩
  | .hbm, ⟨49, _⟩ => ⟨S1x1x1, .i32⟩
  | .hbm, ⟨50, _⟩ => ⟨S16x8x1, .i32⟩
  | .hbm, ⟨51, _⟩ => ⟨S16x8x1, .i1⟩
  | .hbm, ⟨52, _⟩ => ⟨S16x8x1, .i1⟩
  | .hbm, ⟨53, _⟩ => ⟨S_, .i1⟩
  | .hbm, ⟨54, _⟩ => ⟨S16x8, .i1⟩
  | .hbm, ⟨55, _⟩ => ⟨S16x8x768x196, .f32⟩
  | .hbm, ⟨56, _⟩ => ⟨S16x8x768x196, .i1⟩
  | .hbm, ⟨57, _⟩ => ⟨S_, .f32⟩
  | .hbm, ⟨58, _⟩ => ⟨S16x8x768x196, .f32⟩
  | .hbm, ⟨59, _⟩ => ⟨S16x8x768x196, .f32⟩
  | .hbm, ⟨60, _⟩ => ⟨S16x768x8x196, .f32⟩
  | .hbm, ⟨61, _⟩ => ⟨S16x8x1x1, .i32⟩
  | .hbm, ⟨62, _⟩ => ⟨S_, .i32⟩
  | .hbm, ⟨63, _⟩ => ⟨S16x8x1x1, .i32⟩
  | .hbm, ⟨64, _⟩ => ⟨S16x8x1x1, .i1⟩
  | .hbm, ⟨65, _⟩ => ⟨S_, .i32⟩
  | .hbm, ⟨66, _⟩ => ⟨S16x8x1x1, .i32⟩
  | .hbm, ⟨67, _⟩ => ⟨S16x8x1x1, .i32⟩
  | .hbm, ⟨68, _⟩ => ⟨S16x8x1x1, .i32⟩
  | .hbm, ⟨69, _⟩ => ⟨S16x8x1, .i32⟩
  | .hbm, ⟨70, _⟩ => ⟨S1, .i32⟩
  | .hbm, ⟨71, _⟩ => ⟨S_, .i32⟩
  | .hbm, ⟨72, _⟩ => ⟨S16x8x1, .i32⟩
  | .hbm, ⟨73, _⟩ => ⟨S16x8x1, .i1⟩
  | .hbm, ⟨74, _⟩ => ⟨S1x1x1, .i32⟩
  | .hbm, ⟨75, _⟩ => ⟨S16x8x1, .i32⟩
  | .hbm, ⟨76, _⟩ => ⟨S16x8x1, .i1⟩
  | .hbm, ⟨77, _⟩ => ⟨S16x8x1, .i1⟩
  | .hbm, ⟨78, _⟩ => ⟨S_, .i1⟩
  | .hbm, ⟨79, _⟩ => ⟨S16x8, .i1⟩
  | .hbm, ⟨80, _⟩ => ⟨S16x8x768x196, .f32⟩
  | .hbm, ⟨81, _⟩ => ⟨S16x8x768x196, .i1⟩
  | .hbm, ⟨82, _⟩ => ⟨S_, .f32⟩
  | .hbm, ⟨83, _⟩ => ⟨S16x8x768x196, .f32⟩
  | .hbm, ⟨84, _⟩ => ⟨S16x8x768x196, .f32⟩
  | .hbm, ⟨85, _⟩ => ⟨S16x768x8x196, .f32⟩
  | _, _ => ⟨S16x768x16x196, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_v21 : Ref sig .tc := ⟨.hbm, 30, rfl⟩
abbrev main_values_5 : Ref sig .tc := ⟨.hbm, 31, rfl⟩
abbrev main_indices_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_cst : Ref sig .tc := ⟨.hbm, 82, rfl⟩
abbrev main_call3_v15 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]
-- ==== Proof.Select.lean ====
/-
  Picking eight of sixteen by rank, in plain numbers: the place a member has among the members, the k-th member, and the
  rank of an element under a relation "beats".
-/
module

public import Mathlib.Algebra.BigOperators.Fin
public import Mathlib.Algebra.Order.BigOperators.Group.Finset
public import Mathlib.Data.Fintype.BigOperators

@[expose] public section

namespace Cert.Select

/-- How many members come before `i`. -/
def posOf (p : Fin 16 → Bool) (i : Fin 16) : ℕ := ∑ j : Fin 16, if j < i ∧ p j = true then 1 else 0

/-- The member at place `k`, counting members from 0 in increasing order; 0 when there is none. -/
def kth (p : Fin 16 → Bool) (k : ℕ) : ℕ := ∑ j : Fin 16, if p j = true ∧ posOf p j = k then j.val else 0

/-- How many elements beat `i`. -/
def rankOf (b : Fin 16 → Fin 16 → Bool) (i : Fin 16) : ℕ := ∑ j : Fin 16, if b j i = true then 1 else 0

/-- The elements fewer than eight others beat. -/
def topHalf (b : Fin 16 → Fin 16 → Bool) (i : Fin 16) : Bool := decide (rankOf b i < 8)

/-- A later member has a greater place. -/
theorem posOf_lt {p : Fin 16 → Bool} {i j : Fin 16} (hi : p i = true) (h : i < j) : posOf p i < posOf p j := by
  refine Finset.sum_lt_sum (fun k _ => ?_) ⟨i, Finset.mem_univ _, ?_⟩
  · by_cases hk : k < i ∧ p k = true
    · rw [if_pos hk, if_pos ⟨hk.1.trans h, hk.2⟩]
    · rw [if_neg hk]; exact Nat.zero_le _
  · rw [if_neg fun hk => lt_irrefl _ hk.1, if_pos ⟨h, hi⟩]; exact Nat.one_pos

/-- Two members at one place are one. -/
theorem posOf_inj {p : Fin 16 → Bool} {i j : Fin 16} (hi : p i = true) (hj : p j = true) (h : posOf p i = posOf p j) : i = j := by
  rcases lt_trichotomy i j with hl | hl | hl
  · exact absurd h (posOf_lt hi hl).ne
  · exact hl
  · exact absurd h (posOf_lt hj hl).ne'

/-- A member is the one at its place. -/
theorem kth_eq {p : Fin 16 → Bool} {j : Fin 16} (hj : p j = true) : kth p (posOf p j) = j.val := by
  unfold kth
  rw [Finset.sum_eq_single j]
  · rw [if_pos ⟨hj, rfl⟩]
  · intro b _ hb; rw [if_neg fun h => hb (posOf_inj h.1 hj h.2)]
  · intro h; exact absurd (Finset.mem_univ _) h

/-- The member at a place is one of the sixteen. -/
theorem kth_lt (p : Fin 16 → Bool) (k : ℕ) : kth p k < 16 := by
  by_cases h : ∃ j, p j = true ∧ posOf p j = k
  · obtain ⟨j, hj, rfl⟩ := h
    rw [kth_eq hj]; exact j.isLt
  · unfold kth
    rw [Finset.sum_eq_zero fun j _ => if_neg fun hj => h ⟨j, hj⟩]; decide

end Cert.Select
-- ==== Proof.KernelIdeal.ScoreBody.lean ====
/-
  Region 0 of the kernel (grid 16 × 6), the body alone: what one grid point of the scoring kernel leaves in its output
  windows, as functions of the block of pixels it reads and of the score it finds.

  At channel block 0 the score is written afresh (`scoreFirst`), at the others the block's share is added (`scoreNext`),
  and at the last one the two selections are computed from the finished score (`selA`, `selD`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The values a grid point computes -/

/-- The score window after channel block 0: the block's share plus the prior. -/
def scoreFirst (x : Vec F S1x128x16x196 .f32) : Vec F S1x1x16 .f32 :=
  k0_pay2 (k0_pay16 x) (k0_pay21 (k0_pay17 x) k0_pay18) (k0_pay22 (k0_pay17 x) k0_pay18) (k0_pay23 (k0_pay17 x) k0_pay18)
    (Scalar.select (Scalar.cmpi .eq 2#32 0#32) 1#32 2#32) (k0_pay24 k0_pay19 k0_pay20) (k0_pay25 k0_pay19 k0_pay20)
    (k0_pay26 k0_pay19 k0_pay20) k0_pay27

/-- The score window after a later channel block: what it held plus the block's share. -/
def scoreNext (x : Vec F S1x128x16x196 .f32) (s : Vec F S1x1x16 .f32) : Vec F S1x1x16 .f32 :=
  k0_pay3 (k0_pay16 x) (k0_pay21 (k0_pay17 x) k0_pay18) (k0_pay22 (k0_pay17 x) k0_pay18) (k0_pay23 (k0_pay17 x) k0_pay18)
    (Scalar.select (Scalar.cmpi .eq 2#32 0#32) 1#32 2#32) (k0_pay24 k0_pay19 k0_pay20) (k0_pay25 k0_pay19 k0_pay20)
    (k0_pay26 k0_pay19 k0_pay20) k0_pay27 s

/-- The approximation's selection from a finished score: frame numbers, least first, the list twice over. -/
def selA (s : Vec F S1x1x16 .f32) : Vec F S1x1x16 .i32 :=
  k0_pay4 (iota .tc S16x16 32 [1] iota_S16x16_d1_w32) (k0_pay10 s) k0_pay12 k0_pay14 (k0_pay15 s)

/-- The detail's selection from a finished score. -/
def selD (s : Vec F S1x1x16 .f32) : Vec F S1x1x16 .i32 :=
  k0_pay5 (iota .tc S16x16 32 [1] iota_S16x16_d1_w32) (k0_pay11 s) k0_pay12 (k0_pay13 s) k0_pay14

/-! ## The body's branch conditions at a grid point -/

/-- The first branch is taken at channel block 0. -/
theorem cond1_iff (t : Fin cfg0.N) : k0_cond1 (grid0.coords t) = 1#1 ↔ t.val % 6 = 0 := by
  have ht : t.val < 96 := Nat.lt_of_lt_of_eq t.isLt N_0
  have e1 : (grid0.coords t 1).val = t.val / 1 % 6 := Pipeline.Grid.coords_val t 1 (by decide) rfl
  simp only [k0_cond1, e1]
  word_cmp

/-- The second is taken at the other channel blocks. -/
theorem cond2_iff (t : Fin cfg0.N) : k0_cond2 (grid0.coords t) = 1#1 ↔ 1 ≤ t.val % 6 := by
  have ht : t.val < 96 := Nat.lt_of_lt_of_eq t.isLt N_0
  have e1 : (grid0.coords t 1).val = t.val / 1 % 6 := Pipeline.Grid.coords_val t 1 (by decide) rfl
  simp only [k0_cond2, e1]
  word_cmp

/-- The third is taken at the last channel block. -/
theorem cond3_iff (t : Fin cfg0.N) : k0_cond3 (grid0.coords t) = 1#1 ↔ t.val % 6 = 5 := by
  have ht : t.val < 96 := Nat.lt_of_lt_of_eq t.isLt N_0
  have e1 : (grid0.coords t 1).val = t.val / 1 % 6 := Pipeline.Grid.coords_val t 1 (by decide) rfl
  simp only [k0_cond3, e1]
  word_cmp

/-! ## The body's triples -/

section Runs

variable (c : Dev nD) (i : grid0.Coords)
  (arg2 : Memref sig .tc .vmem S1x128x16x196 .f32) (harg2 : arg2.IsWhole) (arg3 : Memref sig .tc .vmem S1x1x16 .f32) (harg3 : arg3.IsWhole)
  (arg4 : Memref sig .tc .vmem S1x1x16 .i32) (harg4 : arg4.IsWhole) (arg5 : Memref sig .tc .vmem S1x1x16 .i32) (harg5 : arg5.IsWhole)
  (x : Vec F S1x128x16x196 .f32) (s : Vec F S1x1x16 .f32) (u v : Vec F S1x1x16 .i32)

/-- The four windows, whole, at given contents. -/
abbrev wins : sProp 𝕄 :=
  iprop(owns (c : Thread nD τ) arg2 fullShare x ∗ owns (c : Thread nD τ) arg3 fullShare s
    ∗ owns (c : Thread nD τ) arg4 fullShare u ∗ owns (c : Thread nD τ) arg5 fullShare v)

set_option maxHeartbeats 2000000 in
/-- Channel block 0: the score window ends at `scoreFirst x`, the others as they were. -/
theorem run_first (h1 : k0_cond1 i = 1#1) (h2 : ¬k0_cond2 i = 1#1) (h3 : ¬k0_cond3 i = 1#1) (E : Set ℕ) (K : PUnit → sProp 𝕄) :
    iprop(wins c arg2 arg3 arg4 arg5 x s u v ∗ (wins c arg2 arg3 arg4 arg5 x (scoreFirst x) u v -∗ K ⟨⟩))
      ⊢ wp frame (wpE (defs₀ (F := F)) Variants.none c none) E (cc0__score_body i arg2 harg2 arg3 harg3 arg4 harg4 arg5 harg5) K := by
  simp only [cc0__score_body_eq_skeleton]; unfold cc0__score_body_skel
  simp only [k0_part2_eq_skeleton, k0_part3_eq_skeleton, k0_part1_eq_skeleton]
  unfold wins owns
  iintro ⟨⟨⟨%f0, %hf0, H0⟩, ⟨%f1, %hf1, H1⟩, H2, H3⟩, Hk⟩
  obtain rfl := harg2.eq_unread hf0
  sl_exec (disch := first | sl_exact h1 | sl_exact h2 | sl_exact h3)
  sl_step
  iapply Hk
  isplitl [H0]
  · iexists _; isplitr; · ipureintro; exact harg2.read_unread _
    iexact H0
  isplitl [H1]
  · iexists _; isplitr; swap; · iexact H1
    ipureintro
    refine (View.read_writes_full arg3.view f1 _ _ _).trans ?_
    have hx := (View.readAt_full arg2.view (harg2.unread x) inb_S1x128x16x196_S1x128x16x196_0_0_0_0).trans (harg2.read_unread x)
    exact congrArg scoreFirst hx
  isplitl [H2]; · iexact H2
  iexact H3

set_option maxHeartbeats 2000000 in
/-- A middle channel block: the score window goes from `s` to `scoreNext x s`, the others stay. -/
theorem run_mid (h1 : ¬k0_cond1 i = 1#1) (h2 : k0_cond2 i = 1#1) (h3 : ¬k0_cond3 i = 1#1) (E : Set ℕ) (K : PUnit → sProp 𝕄) :
    iprop(wins c arg2 arg3 arg4 arg5 x s u v ∗ (wins c arg2 arg3 arg4 arg5 x (scoreNext x s) u v -∗ K ⟨⟩))
      ⊢ wp frame (wpE (defs₀ (F := F)) Variants.none c none) E (cc0__score_body i arg2 harg2 arg3 harg3 arg4 harg4 arg5 harg5) K := by
  simp only [cc0__score_body_eq_skeleton]; unfold cc0__score_body_skel
  simp only [k0_part2_eq_skeleton, k0_part3_eq_skeleton, k0_part1_eq_skeleton]
  unfold wins owns
  iintro ⟨⟨⟨%f0, %hf0, H0⟩, ⟨%f1, %hf1, H1⟩, H2, H3⟩, Hk⟩
  obtain rfl := harg2.eq_unread hf0
  obtain rfl := harg3.eq_unread hf1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; swap; · iexact H1
    ipureintro
    refine (View.read_writes_full arg3.view _ _ _ _).trans ?_
    have hx := (View.readAt_full arg2.view (harg2.unread x) inb_S1x128x16x196_S1x128x16x196_0_0_0_0).trans (harg2.read_unread x)
    have hs := (View.readAt_full arg3.view (harg3.unread s) inb_S1x1x16_S1x1x16_0_0_0).trans (harg3.read_unread s)
    exact congrArg₂ scoreNext hx hs
  isplitl [H2]; · iexact H2
  iexact H3

set_option maxHeartbeats 2000000 in
/-- The last channel block: the score window goes from `s` to `scoreNext x s`, and the selections are computed from that. -/
theorem run_last (h1 : ¬k0_cond1 i = 1#1) (h2 : k0_cond2 i = 1#1) (h3 : k0_cond3 i = 1#1) (E : Set ℕ) (K : PUnit → sProp 𝕄) :
    iprop(wins c arg2 arg3 arg4 arg5 x s u v
        ∗ (wins c arg2 arg3 arg4 arg5 x (scoreNext x s) (selA (scoreNext x s)) (selD (scoreNext x s)) -∗ K ⟨⟩))
      ⊢ wp frame (wpE (defs₀ (F := F)) Variants.none c none) E (cc0__score_body i arg2 harg2 arg3 harg3 arg4 harg4 arg5 harg5) K := by
  simp only [cc0__score_body_eq_skeleton]; unfold cc0__score_body_skel
  simp only [k0_part2_eq_skeleton, k0_part3_eq_skeleton, k0_part1_eq_skeleton]
  unfold wins owns
  iintro ⟨⟨⟨%f0, %hf0, H0⟩, ⟨%f1, %hf1, H1⟩, ⟨%f2, %hf2, H2⟩, ⟨%f3, %hf3, H3⟩⟩, Hk⟩
  obtain rfl := harg2.eq_unread hf0
  obtain rfl := harg3.eq_unread hf1
  sl_exec (disch := first | sl_exact h1 | sl_exact h2 | sl_exact h3)
  sl_step
  have hx := (View.readAt_full arg2.view (harg2.unread x) inb_S1x128x16x196_S1x128x16x196_0_0_0_0).trans (harg2.read_unread x)
  have hs := (View.readAt_full arg3.view (harg3.unread s) inb_S1x1x16_S1x1x16_0_0_0).trans (harg3.read_unread s)
  have he := congrArg₂ scoreNext hx hs
  iapply Hk
  isplitl [H0]
  · iexists _; isplitr; · ipureintro; exact harg2.read_unread _
    iexact H0
  isplitl [H1]
  · iexists _; isplitr; swap; · iexact H1
    ipureintro
    exact (View.read_writes_full arg3.view _ _ _ _).trans he
  isplitl [H2]
  · iexists _; isplitr; swap; · iexact H2
    ipureintro
    refine (View.read_writes_full arg4.view _ _ _ _).trans ?_
    exact congrArg selA ((View.readCov_full arg3.view inb_S1x1x16_S1x1x16_0_0_0 inb_S1x1x16_S1x1x16_0_0_0 _ _).trans he)
  iexists _; isplitr; swap; · iexact H3
  ipureintro
  refine (View.read_writes_full arg5.view _ _ _ _).trans ?_
  exact congrArg selD ((View.readCov_full arg3.view inb_S1x1x16_S1x1x16_0_0_0 inb_S1x1x16_S1x1x16_0_0_0 _ _).trans he)

end Runs

end Cert.KernelIdeal.Score

end
-- ==== Proof.KernelIdeal.ScoreDat.lean ====
/-
  Region 0 of the kernel, its proof data: the score a batch's window holds after each channel block, and the body
  obligation of the pipeline at every grid point.
-/
module

public import proofs.«01_k».proof.Proof.KernelIdeal.ScoreBody
public import Idealize.ShloMosaic.Lib.Pipeline.Frame

@[expose] public section

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of pixels the pipeline brings in at a point. -/
def xblk (c : Dev nD) (t : Fin cfg0.N) : Vec F S1x128x16x196 .f32 :=
  ((cfg0.win 0).blk t).view.read (Elt F) (V c (Pipeline.arrRef spec0 0))

/-- The score window after point `n`: begun at channel block 0, one share added at each later one. -/
def scoreAt (c : Dev nD) : (n : ℕ) → n < cfg0.N → Vec F S1x1x16 .f32
  | 0, h => scoreFirst (xblk V c ⟨0, h⟩)
  | n + 1, h => if (n + 1) % 6 = 0 then scoreFirst (xblk V c ⟨n + 1, h⟩)
      else scoreNext (xblk V c ⟨n + 1, h⟩) (scoreAt c n (Nat.lt_of_succ_lt h))

/-- At channel block 0 the score is begun. -/
theorem scoreAt_first (c : Dev nD) (n : ℕ) (hn : n < cfg0.N) (h : n % 6 = 0) : scoreAt V c n hn = scoreFirst (xblk V c ⟨n, hn⟩) := by
  cases n with
  | zero => rfl
  | succ n => exact if_pos h

/-- At a later channel block a share is added to the point before's. -/
theorem scoreAt_next (c : Dev nD) (n : ℕ) (hn : n < cfg0.N) (h : 1 ≤ n % 6) :
    scoreAt V c n hn = scoreNext (xblk V c ⟨n, hn⟩) (scoreAt V c (n - 1) (Nat.lt_of_le_of_lt (Nat.sub_le _ _) hn)) := by
  cases n with
  | zero => exact absurd h (by decide)
  | succ n => exact if_neg (by omega)

/-- The pipeline's proof data: the arrays as the region finds them, the score after each point, the selections made
    from it, nothing owed. -/
def dat (c : Dev nD) : Dat τ (Elt F) Unit ℕ (UR sig nD τ) ℕ cfg0 c where
  A w := V c (Pipeline.arrRef spec0 w)
  after w t := match w with
    | ⟨0, _⟩ => xblk V c t
    | ⟨1, _⟩ => scoreAt V c t.val t.isLt
    | ⟨2, _⟩ => selA (scoreAt V c t.val t.isLt)
    | ⟨3, _⟩ => selD (scoreAt V c t.val t.isLt)
  Φ _ := Pipeline.scopedRest (Ix := Unit) (Name := ℕ) (U := UR sig nD τ) (Lvl := ℕ) (Val := Elt F) spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = xblk V c t := by dsimp only [dat]
theorem after_1 (c : Dev nD) (t : Fin cfg0.N) : (dat V c).after 1 t = scoreAt V c t.val t.isLt := by dsimp only [dat]
theorem after_2 (c : Dev nD) (t : Fin cfg0.N) : (dat V c).after 2 t = selA (scoreAt V c t.val t.isLt) := by dsimp only [dat]
theorem after_3 (c : Dev nD) (t : Fin cfg0.N) : (dat V c).after 3 t = selD (scoreAt V c t.val t.isLt) := by dsimp only [dat]

/-- The input window holds the block brought in. -/
theorem before_0 (c : Dev nD) (t : Fin cfg0.N) (d) : (dat V c).before 0 t d = xblk V c t :=
  ((dat V c).before_in_eq_fetched 0 rfl (fun _ => rfl) (fun _ _ _ => rfl)
      (fun t => by rw [after_0]; unfold Dat.blockOf xblk; rw [A_eq]; try rfl) t d).trans
    (by unfold Dat.fetched Dat.blockOf xblk; rw [A_eq]; try rfl)

/-- The score window is stored into at every point. -/
theorem live_1 (i : grid0.Coords) : cfg0.idle 1 i = false := by
  show (!(k0_cond1 i == 1#1) && !(k0_cond2 i == 1#1)) = false
  unfold k0_cond1 k0_cond2
  generalize i 1 = n
  revert n
  decide

/-- At a later channel block the score window holds what the point before left. -/
theorem before_1 (c : Dev nD) (t : Fin cfg0.N) (h : 1 ≤ t.val % 6) (d) :
    (dat V c).before 1 t d = scoreAt V c (t.val - 1) (Nat.lt_of_le_of_lt (Nat.sub_le _ _) t.isLt) :=
  ((dat V c).before_out_kept 1 rfl t (by omega)
      (Bool.eq_false_iff.mpr fun hf => by have := (flush0_1 ⟨t.val - 1, Nat.lt_of_le_of_lt (Nat.sub_le _ _) t.isLt⟩).mp hf; dsimp only at this; omega)
      live_1 (fun _ _ => rfl) d).trans (after_1 V c _)

theorem idle_2 (t : Fin cfg0.N) (h : ¬t.val % 6 = 5) : cfg0.idle 2 (grid0.coords t) = true := by
  have := mt (cond3_iff t).mp h
  show (!(k0_cond3 (grid0.coords t) == 1#1)) = true
  simpa using this

theorem idle_3 (t : Fin cfg0.N) (h : ¬t.val % 6 = 5) : cfg0.idle 3 (grid0.coords t) = true := idle_2 t h

theorem live_2 (t : Fin cfg0.N) (h : t.val % 6 = 5) : cfg0.idle 2 (grid0.coords t) = false := by
  have := (cond3_iff t).mpr h
  show (!(k0_cond3 (grid0.coords t) == 1#1)) = false
  simpa using this

theorem live_3 (t : Fin cfg0.N) (h : t.val % 6 = 5) : cfg0.idle 3 (grid0.coords t) = false := live_2 t h

/-- What the pipeline hands the body at a point. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What the body hands back. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_0 (c : Dev nD) (t : Fin cfg0.N) : (dat V c).leavesExact 0 t = owns (c : Thread nD τ) (st0_0 t) fullShare (xblk V c t) := by
  unfold Dat.leavesExact; rw [show cfg0.idle 0 (grid0.coords t) = false from rfl, after_0]
theorem leaves_1 (c : Dev nD) (t : Fin cfg0.N) :
    (dat V c).leavesExact 1 t = owns (c : Thread nD τ) (st0_1 t) fullShare (scoreAt V c t.val t.isLt) := by
  unfold Dat.leavesExact; rw [live_1, after_1]
theorem leaves_2 (c : Dev nD) (t : Fin cfg0.N) (h : t.val % 6 = 5) :
    (dat V c).leavesExact 2 t = owns (c : Thread nD τ) (st0_2 t) fullShare (selA (scoreAt V c t.val t.isLt)) := by
  unfold Dat.leavesExact; rw [live_2 t h, after_2]
theorem leaves_3 (c : Dev nD) (t : Fin cfg0.N) (h : t.val % 6 = 5) :
    (dat V c).leavesExact 3 t = owns (c : Thread nD τ) (st0_3 t) fullShare (selD (scoreAt V c t.val t.isLt)) := by
  unfold Dat.leavesExact; rw [live_3 t h, after_3]
theorem leaves_2_idle (c : Dev nD) (t : Fin cfg0.N) (h : ¬t.val % 6 = 5) :
    (dat V c).leavesExact 2 t = iprop(∃ d, owns (c : Thread nD τ) (st0_2 t) fullShare ((dat V c).before 2 t d)) :=
  Dat.leavesExact_idle _ 2 t (idle_2 t h) (Bool.eq_false_iff.mpr fun hf => h ((flush0_2 t).mp hf))
theorem leaves_3_idle (c : Dev nD) (t : Fin cfg0.N) (h : ¬t.val % 6 = 5) :
    (dat V c).leavesExact 3 t = iprop(∃ d, owns (c : Thread nD τ) (st0_3 t) fullShare ((dat V c).before 3 t d)) :=
  Dat.leavesExact_idle _ 3 t (idle_3 t h) (Bool.eq_false_iff.mpr fun hf => h ((flush0_3 t).mp hf))

set_option maxHeartbeats 1200000 in
/-- The body at any point, from what the pipeline hands it to what it hands back. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl, leaves_0, leaves_1]
  by_cases h0 : t.val % 6 = 0
  · rw [leaves_2_idle V c t (by omega), leaves_3_idle V c t (by omega), scoreAt_first V c t.val t.isLt h0]
    iintro ⟨HΦ, Ho, ⟨%d0, H0⟩, ⟨%d1, H1⟩, ⟨%d2, H2⟩, ⟨%d3, H3⟩⟩
    iapply (run_first c (grid0.coords t) _ _ _ _ _ _ _ _ (xblk V c t) ((dat V c).before 1 t d1) ((dat V c).before 2 t d2) ((dat V c).before 3 t d3)
      ((cond1_iff t).mpr h0) (fun h => by have := (cond2_iff t).mp h; omega) (fun h => by have := (cond3_iff t).mp h; omega) Set.univ _)
    unfold wins
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]; · iexact H0
    isplitl [H1]; · iexact H1
    isplitl [H2]; · iexists _; iexact H2
    iexists _; iexact H3
  · have h1 : 1 ≤ t.val % 6 := by omega
    simp only [before_1 V c t h1]
    rw [scoreAt_next V c t.val t.isLt h1]
    by_cases h5 : t.val % 6 = 5
    · rw [leaves_2 V c t h5, leaves_3 V c t h5, scoreAt_next V c t.val t.isLt h1]
      iintro ⟨HΦ, Ho, ⟨%d0, H0⟩, ⟨%d1, H1⟩, ⟨%d2, H2⟩, ⟨%d3, H3⟩⟩
      iapply (run_last c (grid0.coords t) _ _ _ _ _ _ _ _ (xblk V c t) (scoreAt V c (t.val - 1) (Nat.lt_of_le_of_lt (Nat.sub_le _ _) t.isLt))
        ((dat V c).before 2 t d2) ((dat V c).before 3 t d3)
        (fun h => h0 ((cond1_iff t).mp h)) ((cond2_iff t).mpr h1) ((cond3_iff t).mpr h5) Set.univ _)
      unfold wins
      isplitl [H0 H1 H2 H3]
      · isplitl [H0]; · iexact H0
        isplitl [H1]; · iexact H1
        isplitl [H2]; · iexact H2
        iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [leaves_2_idle V c t h5, leaves_3_idle V c t h5]
      iintro ⟨HΦ, Ho, ⟨%d0, H0⟩, ⟨%d1, H1⟩, ⟨%d2, H2⟩, ⟨%d3, H3⟩⟩
      iapply (run_mid c (grid0.coords t) _ _ _ _ _ _ _ _ (xblk V c t) (scoreAt V c (t.val - 1) (Nat.lt_of_le_of_lt (Nat.sub_le _ _) t.isLt))
        ((dat V c).before 2 t d2) ((dat V c).before 3 t d3)
        (fun h => h0 ((cond1_iff t).mp h)) ((cond2_iff t).mpr h1) (fun h => h5 ((cond3_iff t).mp h)) Set.univ _)
      unfold wins
      isplitl [H0 H1 H2 H3]
      · isplitl [H0]; · iexact H0
        isplitl [H1]; · iexact H1
        isplitl [H2]; · iexact H2
        iexact H3
      iintro ⟨H0, H1, H2, H3⟩
      isplitl [HΦ]; · iexact HΦ
      isplitl [Ho]; · iexact Ho
      isplitl [H0]; · iexact H0
      isplitl [H1]; · iexact H1
      isplitl [H2]; · iexists _; iexact H2
      iexists _; iexact H3

/-- The body table's row at a point's slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Score

end
-- ==== Proof.KernelIdeal.GatherBody.lean ====
/-
  Region 1 of the kernel (grid 16 × 6), the body alone: from a block of pixels and the two lists of frame numbers, the
  two output windows, frame by frame.  The frame numbers are below 16, which the body's dynamic loads need.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp
public import Idealize.ShloMosaic.Lib.Writes
public import Idealize.ShloMosaic.Lib.WholeRead
public import Idealize.ShloMosaic.Lib.ValueIdxCore

@[expose] public section

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- A frame number below 16 passes the bounds check of a dynamic load. -/
theorem chk_of_lt (v : BitVec 32) (h : v.toNat < 16) : k1_chk1 v := by
  unfold k1_chk1
  intro a
  fin_cases a
  · exact Nat.le_refl _
  · exact Nat.le_refl _
  · show v.toNat + 1 ≤ 16
    omega
  · exact Nat.le_refl _

/-- Every entry a list's buffer holds, read through the list's view, is below 16. -/
def Below (m : Memref sig .tc .smem S256 .i32) (f : m.view.ty.Contents (Elt F)) : Prop := ∀ j, (m.view.read (Elt F) f j : BitVec 32).toNat < 16

/-- So is every entry of a load from it. -/
theorem Below.readAt {m : Memref sig .tc .smem S256 .i32} {f : m.view.ty.Contents (Elt F)} (h : Below m f) (R : LoadRect S256) (j) :
    (m.view.readAt (Elt F) R f j : BitVec 32).toNat < 16 := h (R.idx j)

/-! ## The value of a window -/

/-- Frame `k` of the output window is the frame of the block the list names at `16 * b + k`. -/
def pick (x : Vec F S1x128x16x196 .f32) (a : Vec F S256 .i32) (b : ℕ) : Vec F S1x128x8x196 .f32 := fun j =>
  x (ValueIdx.ix4 (j 0) (j 1) (Fin.ofNat 16 (a (ValueIdx.ix1 (Fin.ofNat 256 (b * 16 + (j 2).val))) : BitVec 32).toNat) (j 3))

/-- One frame's load, moved to its place in the output window: the frame number is the list's entry at `off`, and the
    load reads that frame of the block. -/
theorem frame_eq (arg2 : Memref sig .tc .vmem S1x128x16x196 .f32) (harg2 : arg2.IsWhole)
    (arg3 : Memref sig .tc .smem S256 .i32) (harg3 : arg3.IsWhole) (x : Vec F S1x128x16x196 .f32) (a : Vec F S256 .i32)
    (ha : ∀ j, (a j : BitVec 32).toNat < 16) (b k : ℕ) (hb : b < 16) (hk : k < 8)
    (off : Fin 1 → ℕ) (hoff : off 0 = b * 16 + k) (inb : ∀ e, off e + S1.size e ≤ S256.size e) (z : (Rect.unit (s := S256) off S1.size inb).shape.Idx)
    (o4 : Fin 4 → ℕ) (ho4 : o4 = ![0, 0, (arg3.view.readAt (Elt F) (Rect.unit (s := S256) off S1.size inb).toLoadRect (harg3.unread a) z : BitVec 32).toNat, 0])
    (inb4 : ∀ e, o4 e + S1x128x1x196.size e ≤ S1x128x16x196.size e)
    (inbk : ∀ e, (![0, 0, k, 0] : Fin 4 → ℕ) e + S1x128x1x196.size e ≤ S1x128x8x196.size e) (y : S1x128x1x196.Idx) :
    arg2.view.readAt (Elt F) (Rect.unit (s := S1x128x16x196) o4 S1x128x1x196.size inb4).toLoadRect (harg2.unread x) y
      = pick x a b ((Rect.unit (s := S1x128x8x196) ![0, 0, k, 0] S1x128x1x196.size inbk).emb y) := by
  subst ho4
  rw [harg2.readAt_unread]
  unfold pick
  have hz : (z 0).val = 0 := Nat.lt_one_iff.mp (z 0).isLt
  have y0 : (y 0).val = 0 := Nat.lt_one_iff.mp (y 0).isLt
  have y2 : (y 2).val = 0 := Nat.lt_one_iff.mp (y 2).isLt
  have hi : (ValueIdx.ix1 (Fin.ofNat 256 (b * 16 + (((Rect.unit (s := S1x128x8x196) ![0, 0, k, 0] S1x128x1x196.size inbk).emb y) 2).val)) : S256.Idx)
      = (Rect.unit (s := S256) off S1.size inb).toLoadRect.idx z := by
    funext e
    fin_cases e
    refine Fin.ext ?_
    show (b * 16 + (k + 1 * (y 2).val)) % 256 = off 0 + 1 * (z 0).val
    rw [hz, y2, hoff, Nat.mod_eq_of_lt (by omega)]
    omega
  have hv := congrArg (fun v : BitVec 32 => v.toNat) (harg3.readAt_unread a (Rect.unit (s := S256) off S1.size inb).toLoadRect z)
  refine congrArg x (funext fun e => ?_)
  fin_cases e
  · refine Fin.ext ?_
    show 0 + 1 * (y 0).val = 0 + 1 * (y 0).val
    rfl
  · exact Fin.ext rfl
  · refine Fin.ext ?_
    show _ + 1 * (y 2).val = _ % 16
    rw [hi, y2, Nat.mod_eq_of_lt (ha _)]
    exact hv
  · exact Fin.ext rfl

/-- The lists' offset for frame 0: `16 * b + 0`. -/
theorem off0_eq (i : grid1.Coords) : k1_off1 i 0 = (i 0).val * 16 + 0 := by
  unfold k1_off1
  generalize i 0 = n
  revert n
  decide

/-- The lists' offset for frame 1: `16 * b + 1`. -/
theorem off1_eq (i : grid1.Coords) : k1_off4 i 0 = (i 0).val * 16 + 1 := by
  unfold k1_off4
  generalize i 0 = n
  revert n
  decide

/-- The lists' offset for frame 2: `16 * b + 2`. -/
theorem off2_eq (i : grid1.Coords) : k1_off7 i 0 = (i 0).val * 16 + 2 := by
  unfold k1_off7
  generalize i 0 = n
  revert n
  decide

/-- The lists' offset for frame 3: `16 * b + 3`. -/
theorem off3_eq (i : grid1.Coords) : k1_off10 i 0 = (i 0).val * 16 + 3 := by
  unfold k1_off10
  generalize i 0 = n
  revert n
  decide

/-- The lists' offset for frame 4: `16 * b + 4`. -/
theorem off4_eq (i : grid1.Coords) : k1_off13 i 0 = (i 0).val * 16 + 4 := by
  unfold k1_off13
  generalize i 0 = n
  revert n
  decide

/-- The lists' offset for frame 5: `16 * b + 5`. -/
theorem off5_eq (i : grid1.Coords) : k1_off16 i 0 = (i 0).val * 16 + 5 := by
  unfold k1_off16
  generalize i 0 = n
  revert n
  decide

/-- The lists' offset for frame 6: `16 * b + 6`. -/
theorem off6_eq (i : grid1.Coords) : k1_off19 i 0 = (i 0).val * 16 + 6 := by
  unfold k1_off19
  generalize i 0 = n
  revert n
  decide

/-- The lists' offset for frame 7: `16 * b + 7`. -/
theorem off7_eq (i : grid1.Coords) : k1_off22 i 0 = (i 0).val * 16 + 7 := by
  unfold k1_off22
  generalize i 0 = n
  revert n
  decide

/-- Eight frames of one row each cover the window. -/
theorem cover (y : S1x128x8x196.Idx) (k : ℕ) (hy : (y 2).val = k)
    (inbk : ∀ e, (![0, 0, k, 0] : Fin 4 → ℕ) e + S1x128x1x196.size e ≤ S1x128x8x196.size e) :
    y ∈ (Rect.unit (s := S1x128x8x196) ![0, 0, k, 0] S1x128x1x196.size inbk).set := by
  rw [Rect.mem_set_unit]
  intro e
  fin_cases e
  · exact ⟨Nat.zero_le _, by show (y 0).val < 0 + 1; have : (y 0).val < 1 := (y 0).isLt; omega⟩
  · exact ⟨Nat.zero_le _, by show (y 1).val < 0 + 128; have : (y 1).val < 128 := (y 1).isLt; omega⟩
  · exact ⟨hy.ge, by show (y 2).val < k + 1; omega⟩
  · exact ⟨Nat.zero_le _, by show (y 3).val < 0 + 196; have : (y 3).val < 196 := (y 3).isLt; omega⟩

/-- Eight stores, one frame each, leave a function of the index that agrees with each. -/
theorem read_rows (v : View sig .tc .vmem S1x128x8x196 .f32) (f : v.ty.Contents (Elt F)) (G : Vec F S1x128x8x196 .f32)
    (w7 w6 w5 w4 w3 w2 w1 w0 : Vec F S1x128x1x196 .f32)
    (h7 : ∀ z, w7 z = G ((Rect.unit (s := S1x128x8x196) ![0, 0, 7, 0] S1x128x1x196.size inb_S1x128x8x196_S1x128x1x196_0_0_7_0).emb z))
    (h6 : ∀ z, w6 z = G ((Rect.unit (s := S1x128x8x196) ![0, 0, 6, 0] S1x128x1x196.size inb_S1x128x8x196_S1x128x1x196_0_0_6_0).emb z))
    (h5 : ∀ z, w5 z = G ((Rect.unit (s := S1x128x8x196) ![0, 0, 5, 0] S1x128x1x196.size inb_S1x128x8x196_S1x128x1x196_0_0_5_0).emb z))
    (h4 : ∀ z, w4 z = G ((Rect.unit (s := S1x128x8x196) ![0, 0, 4, 0] S1x128x1x196.size inb_S1x128x8x196_S1x128x1x196_0_0_4_0).emb z))
    (h3 : ∀ z, w3 z = G ((Rect.unit (s := S1x128x8x196) ![0, 0, 3, 0] S1x128x1x196.size inb_S1x128x8x196_S1x128x1x196_0_0_3_0).emb z))
    (h2 : ∀ z, w2 z = G ((Rect.unit (s := S1x128x8x196) ![0, 0, 2, 0] S1x128x1x196.size inb_S1x128x8x196_S1x128x1x196_0_0_2_0).emb z))
    (h1 : ∀ z, w1 z = G ((Rect.unit (s := S1x128x8x196) ![0, 0, 1, 0] S1x128x1x196.size inb_S1x128x8x196_S1x128x1x196_0_0_1_0).emb z))
    (h0 : ∀ z, w0 z = G ((Rect.unit (s := S1x128x8x196) ![0, 0, 0, 0] S1x128x1x196.size inb_S1x128x8x196_S1x128x1x196_0_0_0_0).emb z))
    : v.read (Elt F) (v.writes (Elt F) f
      [⟨Rect.unit ![0, 0, 7, 0] S1x128x1x196.size inb_S1x128x8x196_S1x128x1x196_0_0_7_0, w7⟩,
       ⟨Rect.unit ![0, 0, 6, 0] S1x128x1x196.size inb_S1x128x8x196_S1x128x1x196_0_0_6_0, w6⟩,
       ⟨Rect.unit ![0, 0, 5, 0] S1x128x1x196.size inb_S1x128x8x196_S1x128x1x196_0_0_5_0, w5⟩,
       ⟨Rect.unit ![0, 0, 4, 0] S1x128x1x196.size inb_S1x128x8x196_S1x128x1x196_0_0_4_0, w4⟩,
       ⟨Rect.unit ![0, 0, 3, 0] S1x128x1x196.size inb_S1x128x8x196_S1x128x1x196_0_0_3_0, w3⟩,
       ⟨Rect.unit ![0, 0, 2, 0] S1x128x1x196.size inb_S1x128x8x196_S1x128x1x196_0_0_2_0, w2⟩,
       ⟨Rect.unit ![0, 0, 1, 0] S1x128x1x196.size inb_S1x128x8x196_S1x128x1x196_0_0_1_0, w1⟩,
       ⟨Rect.unit ![0, 0, 0, 0] S1x128x1x196.size inb_S1x128x8x196_S1x128x1x196_0_0_0_0, w0⟩]) = G := by
  funext y
  refine View.read_writes_apply_of_pieces _ _ G _ ?_ y ?_
  · simp only [List.forall_mem_cons]
    exact ⟨h7, h6, h5, h4, h3, h2, h1, h0, fun _ h => absurd h List.not_mem_nil⟩
  · have h8 : (y 2).val < 8 := (y 2).isLt
    obtain h | h | h | h | h | h | h | h : (y 2).val = 7 ∨ (y 2).val = 6 ∨ (y 2).val = 5 ∨ (y 2).val = 4 ∨ (y 2).val = 3
        ∨ (y 2).val = 2 ∨ (y 2).val = 1 ∨ (y 2).val = 0 := by omega
    · exact ⟨_, List.mem_cons_self, cover y 7 h inb_S1x128x8x196_S1x128x1x196_0_0_7_0⟩
    · exact ⟨_, List.mem_cons_of_mem _ <| List.mem_cons_self, cover y 6 h inb_S1x128x8x196_S1x128x1x196_0_0_6_0⟩
    · exact ⟨_, List.mem_cons_of_mem _ <| List.mem_cons_of_mem _ <| List.mem_cons_self, cover y 5 h inb_S1x128x8x196_S1x128x1x196_0_0_5_0⟩
    · exact ⟨_, List.mem_cons_of_mem _ <| List.mem_cons_of_mem _ <| List.mem_cons_of_mem _ <| List.mem_cons_self, cover y 4 h inb_S1x128x8x196_S1x128x1x196_0_0_4_0⟩
    · exact ⟨_, List.mem_cons_of_mem _ <| List.mem_cons_of_mem _ <| List.mem_cons_of_mem _ <| List.mem_cons_of_mem _ <| List.mem_cons_self, cover y 3 h inb_S1x128x8x196_S1x128x1x196_0_0_3_0⟩
    · exact ⟨_, List.mem_cons_of_mem _ <| List.mem_cons_of_mem _ <| List.mem_cons_of_mem _ <| List.mem_cons_of_mem _ <| List.mem_cons_of_mem _ <| List.mem_cons_self, cover y 2 h inb_S1x128x8x196_S1x128x1x196_0_0_2_0⟩
    · exact ⟨_, List.mem_cons_of_mem _ <| List.mem_cons_of_mem _ <| List.mem_cons_of_mem _ <| List.mem_cons_of_mem _ <| List.mem_cons_of_mem _ <| List.mem_cons_of_mem _ <| List.mem_cons_self, cover y 1 h inb_S1x128x8x196_S1x128x1x196_0_0_1_0⟩
    · exact ⟨_, List.mem_cons_of_mem _ <| List.mem_cons_of_mem _ <| List.mem_cons_of_mem _ <| List.mem_cons_of_mem _ <| List.mem_cons_of_mem _ <| List.mem_cons_of_mem _ <| List.mem_cons_of_mem _ <| List.mem_cons_self, cover y 0 h inb_S1x128x8x196_S1x128x1x196_0_0_0_0⟩

section Runs

variable (c : Dev nD) (i : grid1.Coords)
  (arg2 : Memref sig .tc .vmem S1x128x16x196 .f32) (harg2 : arg2.IsWhole) (arg3 : Memref sig .tc .smem S256 .i32) (harg3 : arg3.IsWhole)
  (arg4 : Memref sig .tc .smem S256 .i32) (harg4 : arg4.IsWhole)
  (arg5 : Memref sig .tc .vmem S1x128x8x196 .f32) (harg5 : arg5.IsWhole) (arg6 : Memref sig .tc .vmem S1x128x8x196 .f32) (harg6 : arg6.IsWhole)
  (x : Vec F S1x128x16x196 .f32) (a d : Vec F S256 .i32) (p q : Vec F S1x128x8x196 .f32)

/-- The five windows, whole, at given contents. -/
abbrev wins : sProp 𝕄 :=
  iprop(owns (c : Thread nD τ) arg2 fullShare x ∗ owns (c : Thread nD τ) arg3 fullShare a
    ∗ owns (c : Thread nD τ) arg4 fullShare d ∗ owns (c : Thread nD τ) arg5 fullShare p ∗ owns (c : Thread nD τ) arg6 fullShare q)

set_option maxHeartbeats 4000000 in
set_option sl_exec.resultNames true in
/-- The body leaves in the two output windows the frames the two lists name. -/
theorem run (ha : ∀ j, (a j).toNat < 16) (hd : ∀ j, (d j).toNat < 16) (E : Set ℕ) (K : PUnit → sProp 𝕄) :
    iprop(wins c arg2 arg3 arg4 arg5 arg6 x a d p q ∗ (wins c arg2 arg3 arg4 arg5 arg6 x a d (pick x a (i 0).val) (pick x d (i 0).val) -∗ K ⟨⟩))
      ⊢ wp frame (wpE (defs₀ (F := F)) Variants.none c none) E (cc1__tc_gather_body i arg2 harg2 arg3 harg3 arg4 harg4 arg5 harg5 arg6 harg6) K := by
  simp only [cc1__tc_gather_body_eq_skeleton]; unfold cc1__tc_gather_body_skel
  simp only [k1_part1_eq_skeleton, k1_part2_eq_skeleton, k1_part3_eq_skeleton, k1_part4_eq_skeleton, k1_part5_eq_skeleton]
  unfold wins owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0
  obtain rfl := harg3.eq_unread hf1
  obtain rfl := harg4.eq_unread hf2
  have ra : Below arg3 (harg3.unread a) := fun j => by rw [hf1]; exact ha j
  have rd : Below arg4 (harg4.unread d) := fun j => by rw [hf2]; exact hd j
  sl_exec (disch := (refine chk_of_lt _ (Below.readAt ?_ _ _); first | sl_exact ra | sl_exact rd))
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    refine read_rows arg5.view f3 (pick x a (i 0).val) _ _ _ _ _ _ _ _ ?_ ?_ ?_ ?_ ?_ ?_ ?_ ?_ <;> intro z
    · unfold k1_pay1; rw [shapeCast_shapeCast]; unfold run.sl.v149
      have hv := frame_eq arg2 harg2 arg3 harg3 x a ha (i 0).val 7 (i 0).isLt (by decide) (k1_off22 i) (off7_eq i)
        (k1_off22_inb i) (Shape.Idx.first (numel1_S1.symm ▸ Nat.one_pos)) (k1_off23 (run.sl.v143 c i arg3 harg3 a))
      unfold run.sl.v143 at hv ⊢
      exact hv rfl _ inb_S1x128x8x196_S1x128x1x196_0_0_7_0 z
    · unfold k1_pay16; rw [shapeCast_shapeCast]; unfold run.sl.v129
      have hv := frame_eq arg2 harg2 arg3 harg3 x a ha (i 0).val 6 (i 0).isLt (by decide) (k1_off19 i) (off6_eq i)
        (k1_off19_inb i) (Shape.Idx.first (numel1_S1.symm ▸ Nat.one_pos)) (k1_off20 (run.sl.v123 c i arg3 harg3 a))
      unfold run.sl.v123 at hv ⊢
      exact hv rfl _ inb_S1x128x8x196_S1x128x1x196_0_0_6_0 z
    · unfold k1_pay14; rw [shapeCast_shapeCast]; unfold run.sl.v109
      have hv := frame_eq arg2 harg2 arg3 harg3 x a ha (i 0).val 5 (i 0).isLt (by decide) (k1_off16 i) (off5_eq i)
        (k1_off16_inb i) (Shape.Idx.first (numel1_S1.symm ▸ Nat.one_pos)) (k1_off17 (run.sl.v103 c i arg3 harg3 a))
      unfold run.sl.v103 at hv ⊢
      exact hv rfl _ inb_S1x128x8x196_S1x128x1x196_0_0_5_0 z
    · unfold k1_pay12; rw [shapeCast_shapeCast]; unfold run.sl.v89
      have hv := frame_eq arg2 harg2 arg3 harg3 x a ha (i 0).val 4 (i 0).isLt (by decide) (k1_off13 i) (off4_eq i)
        (k1_off13_inb i) (Shape.Idx.first (numel1_S1.symm ▸ Nat.one_pos)) (k1_off14 (run.sl.v83 c i arg3 harg3 a))
      unfold run.sl.v83 at hv ⊢
      exact hv rfl _ inb_S1x128x8x196_S1x128x1x196_0_0_4_0 z
    · unfold k1_pay10; rw [shapeCast_shapeCast]; unfold run.sl.v69
      have hv := frame_eq arg2 harg2 arg3 harg3 x a ha (i 0).val 3 (i 0).isLt (by decide) (k1_off10 i) (off3_eq i)
        (k1_off10_inb i) (Shape.Idx.first (numel1_S1.symm ▸ Nat.one_pos)) (k1_off11 (run.sl.v63 c i arg3 harg3 a))
      unfold run.sl.v63 at hv ⊢
      exact hv rfl _ inb_S1x128x8x196_S1x128x1x196_0_0_3_0 z
    · unfold k1_pay7; rw [shapeCast_shapeCast]; unfold run.sl.v49
      have hv := frame_eq arg2 harg2 arg3 harg3 x a ha (i 0).val 2 (i 0).isLt (by decide) (k1_off7 i) (off2_eq i)
        (k1_off7_inb i) (Shape.Idx.first (numel1_S1.symm ▸ Nat.one_pos)) (k1_off8 (run.sl.v43 c i arg3 harg3 a))
      unfold run.sl.v43 at hv ⊢
      exact hv rfl _ inb_S1x128x8x196_S1x128x1x196_0_0_2_0 z
    · unfold k1_pay5; rw [shapeCast_shapeCast]; unfold run.sl.v29
      have hv := frame_eq arg2 harg2 arg3 harg3 x a ha (i 0).val 1 (i 0).isLt (by decide) (k1_off4 i) (off1_eq i)
        (k1_off4_inb i) (Shape.Idx.first (numel1_S1.symm ▸ Nat.one_pos)) (k1_off5 (run.sl.v23 c i arg3 harg3 a))
      unfold run.sl.v23 at hv ⊢
      exact hv rfl _ inb_S1x128x8x196_S1x128x1x196_0_0_1_0 z
    · unfold k1_pay3; rw [shapeCast_shapeCast]; unfold run.sl.v9
      have hv := frame_eq arg2 harg2 arg3 harg3 x a ha (i 0).val 0 (i 0).isLt (by decide) (k1_off1 i) (off0_eq i)
        (k1_off1_inb i) (Shape.Idx.first (numel1_S1.symm ▸ Nat.one_pos)) (k1_off2 (run.sl.v3 c i arg3 harg3 a))
      unfold run.sl.v3 at hv ⊢
      exact hv rfl _ inb_S1x128x8x196_S1x128x1x196_0_0_0_0 z
  iexists _; isplitr; swap; · iexact H4
  ipureintro
  refine read_rows arg6.view f4 (pick x d (i 0).val) _ _ _ _ _ _ _ _ ?_ ?_ ?_ ?_ ?_ ?_ ?_ ?_ <;> intro z
  · unfold k1_pay2; rw [shapeCast_shapeCast]; unfold run.sl.v155
    have hv := frame_eq arg2 harg2 arg4 harg4 x d hd (i 0).val 7 (i 0).isLt (by decide) (k1_off22 i) (off7_eq i)
      (k1_off22_inb i) (Shape.Idx.first (numel1_S1.symm ▸ Nat.one_pos)) (k1_off24 (run.sl.v147 c i arg4 harg4 d))
    unfold run.sl.v147 at hv ⊢
    exact hv rfl _ inb_S1x128x8x196_S1x128x1x196_0_0_7_0 z
  · unfold k1_pay17; rw [shapeCast_shapeCast]; unfold run.sl.v135
    have hv := frame_eq arg2 harg2 arg4 harg4 x d hd (i 0).val 6 (i 0).isLt (by decide) (k1_off19 i) (off6_eq i)
      (k1_off19_inb i) (Shape.Idx.first (numel1_S1.symm ▸ Nat.one_pos)) (k1_off21 (run.sl.v127 c i arg4 harg4 d))
    unfold run.sl.v127 at hv ⊢
    exact hv rfl _ inb_S1x128x8x196_S1x128x1x196_0_0_6_0 z
  · unfold k1_pay15; rw [shapeCast_shapeCast]; unfold run.sl.v115
    have hv := frame_eq arg2 harg2 arg4 harg4 x d hd (i 0).val 5 (i 0).isLt (by decide) (k1_off16 i) (off5_eq i)
      (k1_off16_inb i) (Shape.Idx.first (numel1_S1.symm ▸ Nat.one_pos)) (k1_off18 (run.sl.v107 c i arg4 harg4 d))
    unfold run.sl.v107 at hv ⊢
    exact hv rfl _ inb_S1x128x8x196_S1x128x1x196_0_0_5_0 z
  · unfold k1_pay13; rw [shapeCast_shapeCast]; unfold run.sl.v95
    have hv := frame_eq arg2 harg2 arg4 harg4 x d hd (i 0).val 4 (i 0).isLt (by decide) (k1_off13 i) (off4_eq i)
      (k1_off13_inb i) (Shape.Idx.first (numel1_S1.symm ▸ Nat.one_pos)) (k1_off15 (run.sl.v87 c i arg4 harg4 d))
    unfold run.sl.v87 at hv ⊢
    exact hv rfl _ inb_S1x128x8x196_S1x128x1x196_0_0_4_0 z
  · unfold k1_pay11; rw [shapeCast_shapeCast]; unfold run.sl.v75
    have hv := frame_eq arg2 harg2 arg4 harg4 x d hd (i 0).val 3 (i 0).isLt (by decide) (k1_off10 i) (off3_eq i)
      (k1_off10_inb i) (Shape.Idx.first (numel1_S1.symm ▸ Nat.one_pos)) (k1_off12 (run.sl.v67 c i arg4 harg4 d))
    unfold run.sl.v67 at hv ⊢
    exact hv rfl _ inb_S1x128x8x196_S1x128x1x196_0_0_3_0 z
  · unfold k1_pay9 run.sl.v56 k1_pay8; rw [shapeCast_shapeCast]; unfold run.sl.v55
    have hv := frame_eq arg2 harg2 arg4 harg4 x d hd (i 0).val 2 (i 0).isLt (by decide) (k1_off7 i) (off2_eq i)
      (k1_off7_inb i) (Shape.Idx.first (numel1_S1.symm ▸ Nat.one_pos)) (k1_off9 (run.sl.v47 c i arg4 harg4 d))
    unfold run.sl.v47 at hv ⊢
    exact hv rfl _ inb_S1x128x8x196_S1x128x1x196_0_0_2_0 z
  · unfold k1_pay6; rw [shapeCast_shapeCast]; unfold run.sl.v35
    have hv := frame_eq arg2 harg2 arg4 harg4 x d hd (i 0).val 1 (i 0).isLt (by decide) (k1_off4 i) (off1_eq i)
      (k1_off4_inb i) (Shape.Idx.first (numel1_S1.symm ▸ Nat.one_pos)) (k1_off6 (run.sl.v27 c i arg4 harg4 d))
    unfold run.sl.v27 at hv ⊢
    exact hv rfl _ inb_S1x128x8x196_S1x128x1x196_0_0_1_0 z
  · unfold k1_pay4; rw [shapeCast_shapeCast]; unfold run.sl.v15
    have hv := frame_eq arg2 harg2 arg4 harg4 x d hd (i 0).val 0 (i 0).isLt (by decide) (k1_off1 i) (off0_eq i)
      (k1_off1_inb i) (Shape.Idx.first (numel1_S1.symm ▸ Nat.one_pos)) (k1_off3 (run.sl.v7 c i arg4 harg4 d))
    unfold run.sl.v7 at hv ⊢
    exact hv rfl _ inb_S1x128x8x196_S1x128x1x196_0_0_0_0 z

end Runs

end Cert.KernelIdeal.Gather

end
-- ==== Proof.KernelIdeal.GatherDat.lean ====
/-
  Region 1 of the kernel, its proof data: what each grid point leaves in the two output windows, and the body obligation
  of the pipeline at every grid point, from lists of frame numbers below 16.
-/
module

public import proofs.«01_k».proof.Proof.KernelIdeal.GatherBody
public import Idealize.ShloMosaic.Lib.Pipeline.Frame

@[expose] public section

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of pixels the pipeline brings in at a point. -/
def xblk (c : Dev nD) (t : Fin cfg1.N) : Vec F S1x128x16x196 .f32 :=
  ((cfg1.win 0).blk t).view.read (Elt F) (V c (Pipeline.arrRef spec1 0))

/-- The approximation's list of frame numbers. -/
def alist (c : Dev nD) (t : Fin cfg1.N) : Vec F S256 .i32 :=
  ((cfg1.win 1).blk t).view.read (Elt F) (V c (Pipeline.arrRef spec1 1))

/-- The detail's list of frame numbers. -/
def dlist (c : Dev nD) (t : Fin cfg1.N) : Vec F S256 .i32 :=
  ((cfg1.win 2).blk t).view.read (Elt F) (V c (Pipeline.arrRef spec1 2))

/-- The pipeline's proof data: the arrays as the region finds them, the picked frames after each point, nothing owed. -/
def dat (c : Dev nD) : Dat τ (Elt F) Unit ℕ (UR sig nD τ) ℕ cfg1 c where
  A w := V c (Pipeline.arrRef spec1 w)
  after w t := match w with
    | ⟨0, _⟩ => xblk V c t
    | ⟨1, _⟩ => alist V c t
    | ⟨2, _⟩ => dlist V c t
    | ⟨3, _⟩ => pick (xblk V c t) (alist V c t) (grid1.coords t 0).val
    | ⟨4, _⟩ => pick (xblk V c t) (dlist V c t) (grid1.coords t 0).val
  Φ _ := Pipeline.scopedRest (Ix := Unit) (Name := ℕ) (U := UR sig nD τ) (Lvl := ℕ) (Val := Elt F) spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = xblk V c t := by dsimp only [dat]
theorem after_1 (c : Dev nD) (t : Fin cfg1.N) : (dat V c).after 1 t = alist V c t := by dsimp only [dat]
theorem after_2 (c : Dev nD) (t : Fin cfg1.N) : (dat V c).after 2 t = dlist V c t := by dsimp only [dat]
theorem after_3 (c : Dev nD) (t : Fin cfg1.N) :
    (dat V c).after 3 t = pick (xblk V c t) (alist V c t) (grid1.coords t 0).val := by dsimp only [dat]
theorem after_4 (c : Dev nD) (t : Fin cfg1.N) :
    (dat V c).after 4 t = pick (xblk V c t) (dlist V c t) (grid1.coords t 0).val := by dsimp only [dat]

/-- The input window holds the block brought in. -/
theorem before_0 (c : Dev nD) (t : Fin cfg1.N) (d) : (dat V c).before 0 t d = xblk V c t :=
  ((dat V c).before_in_eq_fetched 0 rfl (fun _ => rfl) (fun _ _ _ => rfl)
      (fun t => by rw [after_0]; unfold Dat.blockOf xblk; rw [A_eq]; try rfl) t d).trans
    (by unfold Dat.fetched Dat.blockOf xblk; rw [A_eq]; try rfl)

/-- The first list's window holds the list. -/
theorem before_1 (c : Dev nD) (t : Fin cfg1.N) (d) : (dat V c).before 1 t d = alist V c t :=
  ((dat V c).before_in_eq_fetched 1 rfl (fun _ => rfl) (fun _ _ _ => rfl)
      (fun t => by rw [after_1]; unfold Dat.blockOf alist; rw [A_eq]; try rfl) t d).trans
    (by unfold Dat.fetched Dat.blockOf alist; rw [A_eq]; try rfl)

/-- The second list's window holds the list. -/
theorem before_2 (c : Dev nD) (t : Fin cfg1.N) (d) : (dat V c).before 2 t d = dlist V c t :=
  ((dat V c).before_in_eq_fetched 2 rfl (fun _ => rfl) (fun _ _ _ => rfl)
      (fun t => by rw [after_2]; unfold Dat.blockOf dlist; rw [A_eq]; try rfl) t d).trans
    (by unfold Dat.fetched Dat.blockOf dlist; rw [A_eq]; try rfl)

/-- What the pipeline hands the body at a point. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What the body hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t) ∗ owns (c : Thread nD τ) (st1_1 t) fullShare ((dat V c).after 1 t) ∗ owns (c : Thread nD τ) (st1_2 t) fullShare ((dat V c).after 2 t) ∗ owns (c : Thread nD τ) (st1_3 t) fullShare ((dat V c).after 3 t) ∗ owns (c : Thread nD τ) (st1_4 t) fullShare ((dat V c).after 4 t))

set_option maxHeartbeats 1200000 in
/-- The body at any point, from what the pipeline hands it to what it hands back. -/
theorem sound_body (ha : ∀ c t j, (alist V c t j : BitVec 32).toNat < 16) (hd : ∀ c t j, (dlist V c t j : BitVec 32).toNat < 16)
    (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (run c (grid1.coords t) _ _ _ _ _ _ _ _ _ _ (xblk V c t) (alist V c t) (dlist V c t) ((dat V c).before 3 t d3) ((dat V c).before 4 t d4)
    (ha c t) (hd c t) Set.univ _)
  unfold wins
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at a point's slots is the body as `bodyAt1` spells it. -/
theorem defs₀_row (t : Fin cfg1.N) : defs₀ (F := F) .tc cfg1.body (cfg1.bodyArgs t (cfg1.slots t)) = bodyAt1 t := by
  unfold defs₀; rw [Defs.onTc_tc]

/-- The library's body obligation, at every point. -/
theorem body_obligation (ha : ∀ c t j, (alist V c t j : BitVec 32).toNat < 16) (hd : ∀ c t j, (dlist V c t j : BitVec 32).toNat < 16)
    (c : Dev nD) : BodyObligation (dat V c) (defs₀ (F := F)) Variants.none () Set.univ := fun t => by
  rw [bigSep_W1, bigSep_W1, defs₀_row]
  exact triple_restated (sound_body V ha hd c t) rfl .rfl fun _ => .rfl

end Cert.KernelIdeal.Gather

end
-- ==== Proof.KernelIdeal.Regs.lean ====
/-
  The two regions of the kernel as segments of @main: each entered with every unscoped buffer whole at a valuation and
  left with the buffers its pipeline writes at what the pipeline leaves.
-/
module

public import proofs.«01_k».proof.Proof.KernelIdeal.ScoreDat
public import proofs.«01_k».proof.Proof.KernelIdeal.GatherDat
public import proofs.«01_k».proof.Proof.Gen.KernelIdeal.Regions
public import Idealize.ShloMosaic.Lib.Pipeline.RegionArrays
public import Idealize.ShloMosaic.Lib.Pipeline.FrameTail

@[expose] public section

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- No bounded call, and no level: no core owes another anything. -/
abbrev 𝒱₀ : Variants := Variants.none
abbrev L : GSem nD τ sig → Finset Unit := fun _ => ∅
abbrev lv : GSem nD τ sig → Unit → ℕ := fun _ _ => 0

variable (V W Vp : (c : Dev nD) → (b : Ref sig .tc) → Buf (Elt F) ((c : Thread nD τ).loc b))

/-- The two pipelines' proof data, from the buffers each region finds. -/
def pdats : (p : Fin 2) → (c : Dev nD) → Dat τ (Elt F) Unit ℕ (UR sig nD τ) ℕ (cfgs p) c
  | ⟨0, _⟩ => fun c => Score.dat V c
  | ⟨1, _⟩ => fun c => Gather.dat W c

set_option backward.isDefEq.respectTransparency.types false in
/-- Region 0 as a segment: entered with every unscoped buffer at `V c`, left with them at `Vp c`, where `Vp` holds the
    pipeline's arrays at what the pipeline leaves and every other buffer as before. -/
def reg0 (hw : ∀ c w, (Score.dat V c).arrAt w cfg0.N = Vp c (Pipeline.arrRef spec0 w))
    (hne : ∀ c (b : Ref sig .tc), (∀ w, b ≠ Pipeline.arrRef spec0 w) → Vp c b = V c b) :
    Pipeline.RegionSeg (pcfgs (F := F)) adm (pdats V W) () defs₀ 𝒱₀ L lv 0 where
  win := launch0.win.to₀
  block_pos := launch0.block_pos
  stage_whole := launch0.stage_whole
  K := PEmpty
  osem k := k.elim
  ho := Pipeline.OwnSemFacts.none _
  hbody c := (Score.body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (pdats V W) launch0.win launch0.arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0
      = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V W 0 c).Φ (Fin.last _)
      = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats V W) ((pdats V W 0 c).share_full fun _ => rfl) (V c) (Vp c)
      ((pdats V W 0 c).arrAt · cfg0.N) (fun w => hw c w)
      (fun b hb => hne c b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1 as a segment: entered with every unscoped buffer at `V c`, left with them at `Vp c`, where `Vp` holds the
    pipeline's arrays at what the pipeline leaves and every other buffer as before. -/
def reg1 (ha : ∀ c t j, (Gather.alist W c t j : BitVec 32).toNat < 16) (hd : ∀ c t j, (Gather.dlist W c t j : BitVec 32).toNat < 16)
    (hw : ∀ c w, (Gather.dat W c).arrAt w cfg1.N = Vp c (Pipeline.arrRef spec1 w))
    (hne : ∀ c (b : Ref sig .tc), (∀ w, b ≠ Pipeline.arrRef spec1 w) → Vp c b = W c b) :
    Pipeline.RegionSeg (pcfgs (F := F)) adm (pdats V W) () defs₀ 𝒱₀ L lv 1 where
  win := launch1.win.to₀
  block_pos := launch1.block_pos
  stage_whole := launch1.stage_whole
  K := PEmpty
  osem k := k.elim
  ho := Pipeline.OwnSemFacts.none _
  hbody c := (Gather.body_obligation W ha hd c).loose
  hwaits := Pipeline.hwaits_of_owed_zero _ _ _ _ L lv 1 fun _ _ => rfl
  pre c := iprop(unscopedBufs c (W c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (W c)
  hentry c := by
    rw [Pipeline.ownSems0_none]
    have hsplit := Pipeline.arrays_of_unscopedBufs (p := 1) (pcfgs (F := F)) adm (pdats V W) launch1.win launch1.arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0
      = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V W 1 c).Φ (Fin.last _)
      = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats V W) ((pdats V W 1 c).share_full fun _ => rfl) (W c) (Vp c)
      ((pdats V W 1 c).arrAt · cfg1.N) (fun w => hw c w)
      (fun b hb => hne c b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Regs

end
-- ==== Proof.KernelIdeal.SelRead.lean ====
/-
  What the scoring kernel's two selections hold: entry `k` is the `k mod 8`-th frame, in increasing order, among the
  frames that fewer than eight others beat; for the approximation a frame beats another by a greater score, for the
  detail by a smaller one, and at equal scores the earlier frame beats the later.
-/
module

public import proofs.«01_k».proof.Proof.KernelIdeal.ScoreBody
public import proofs.«01_k».proof.Proof.Select
public import Idealize.ShloMosaic.Lib.WordSum
public import Idealize.ShloMosaic.Lib.ValueIdxCore
public import Idealize.ShloMosaic.Lib.ValueLayout
public import Idealize.ShloMosaic.Lib.ValueLayoutCasts
public import Idealize.ShloMosaic.PureOps.Reduce

@[expose] public section

set_option maxRecDepth 16384

noncomputable section

namespace Cert.KernelIdeal.Score

open Cert.KernelIdeal Cert.KernelIdeal.Gen Cert.Select
open Idealize.ShloMosaic Idealize.ShloMosaic.ValueIdx

variable {F : FTy → Type} [FloatOps F]

/-- An integer row sum of a 16 × 16 table of small numbers. -/
theorem rowSum (src : IVec S16x16 32) (hb : ∀ i j : Fin 16, (src (ix2 i j)).toNat < 2 ^ 28) (i : Fin 16) :
    (multiReductionI .add [1] S16 src 0#32 reduces_S16x16_S16 rfl (ix1 i)).toNat = ∑ j : Fin 16, (src (ix2 i j)).toNat := by
  have hset : ∑ k ∈ Finset.univ.filter (fun k => reduces_S16x16_S16.drop k = ix1 i), (src k).toNat
      = ∑ j : Fin 16, (src (ix2 i j)).toNat := by
    rw [Finset.sum_filter, ValueIdx.sum_idx2]
    rw [Finset.sum_eq_single i]
    · refine Finset.sum_congr rfl fun b _ => if_pos ?_
      refine funext fun a => Fin.ext ?_
      obtain rfl : a = 0 := Subsingleton.elim _ _
      exact reduces_S16x16_S16.drop_apply_val_of_eq _ 0 0
    · intro a _ ha
      refine Finset.sum_eq_zero fun b _ => if_neg fun h => ha (Fin.ext ?_)
      have h0 := congrArg Fin.val (congrFun h 0)
      rw [reduces_S16x16_S16.drop_apply_val_of_eq _ 0 0] at h0
      exact h0
    · intro h; exact absurd (Finset.mem_univ _) h
  refine (WordSum.toNat_multiReductionI_add src reduces_S16x16_S16 rfl (ix1 i) ?_).trans hset
  rw [hset]
  calc ∑ j : Fin 16, (src (ix2 i j)).toNat ≤ ∑ _j : Fin 16, (2 ^ 28 - 1) := Finset.sum_le_sum fun j _ => by have := hb i j; omega
    _ < 2 ^ 32 := by simp

/-- A cast between a list of sixteen and a 1 × 1 × 16 block keeps the place. -/
theorem row3_1 (j : Fin 16) : (S1x1x16.rowMajor (ix3 0 0 j)).val = (S16.rowMajor (ix1 j)).val := by
  simp [Shape.rowMajor_val_three, Shape.rowMajor_val_one]

/-- Frame `j`'s score read along a row of the comparison table. -/
theorem pay7_at (s : Vec F S1x1x16 .f32) (i j : Fin 16) : k0_pay7 s (ix2 i j) = s (ix3 0 0 j) := by
  unfold k0_pay7 k0_pay6
  rw [broadcastTo_1b_ab_apply, shapeCast_self, shapeCast_a_1a_apply]
  exact shapeCast_apply _ _ _ (ix3 0 0 j) (row3_1 j)

/-- Frame `i`'s score read down a column of it. -/
theorem pay8_at (s : Vec F S1x1x16 .f32) (i j : Fin 16) : k0_pay8 s (ix2 i j) = s (ix3 0 0 i) := by
  unfold k0_pay8 k0_pay6
  rw [broadcastTo_apply _ _ (ix2 i j) (ix2 i 0) (by decide +revert), shapeCast_self, shapeCast_a_a1_apply]
  exact shapeCast_apply _ _ _ (ix3 0 0 i) (row3_1 i)

/-- A one-bit word is its truth value. -/
theorem ofBool_beq (b : BitVec 1) : BitVec.ofBool (b == 1#1) = b := by decide +revert

theorem andi_ofBool (p q : Bool) : IntOp.andi (BitVec.ofBool p) (BitVec.ofBool q) = BitVec.ofBool (p && q) := by decide +revert

theorem ori_ofBool (p q : Bool) : IntOp.ori (BitVec.ofBool p) (BitVec.ofBool q) = BitVec.ofBool (p || q) := by decide +revert

/-- The iota along the lanes. -/
theorem iota1_at (i j : Fin 16) : iota .tc S16x16 32 [1] iota_S16x16_d1_w32 (ix2 i j) = BitVec.ofNat 32 j.val :=
  iota_single_apply .tc S16x16 32 1 iota_S16x16_d1_w32 (ix2 i j)

/-- The iota along the rows. -/
theorem iota0_at (i j : Fin 16) : iota .tc S16x16 32 [0] iota_S16x16_d0_w32 (ix2 i j) = BitVec.ofNat 32 i.val :=
  iota_single_apply .tc S16x16 32 0 iota_S16x16_d0_w32 (ix2 i j)

theorem slt_ofNat (i j : Fin 16) : IntOp.cmpi .slt (BitVec.ofNat 32 j.val) (BitVec.ofNat 32 i.val) = BitVec.ofBool (decide (j < i)) := by
  decide +revert

/-- The mask "an equal score, earlier". -/
theorem pay9_at (s : Vec F S1x1x16 .f32) (i j : Fin 16) :
    k0_pay9 s (ix2 i j) = BitVec.ofBool ((FloatOps.cmpf .oeq (s (ix3 0 0 j)) (s (ix3 0 0 i)) == 1#1) && decide (j < i)) := by
  unfold k0_pay9
  show IntOp.andi (FloatOps.cmpf .oeq (k0_pay7 s (ix2 i j)) (k0_pay8 s (ix2 i j)))
    (IntOp.cmpi .slt (iota .tc S16x16 32 [1] iota_S16x16_d1_w32 (ix2 i j)) (iota .tc S16x16 32 [0] iota_S16x16_d0_w32 (ix2 i j))) = _
  rw [pay7_at, pay8_at, iota1_at, iota0_at, slt_ofNat, ← andi_ofBool, ofBool_beq]

/-- Frame `j` goes before frame `i`: its score compares as `p` says, or equal and it is the earlier frame. -/
def beats (p : CmpFPredicate) (s : Vec F S1x1x16 .f32) (j i : Fin 16) : Bool :=
  (FloatOps.cmpf p (s (ix3 0 0 j)) (s (ix3 0 0 i)) == 1#1)
    || ((FloatOps.cmpf .oeq (s (ix3 0 0 j)) (s (ix3 0 0 i)) == 1#1) && decide (j < i))

theorem toNat_extui (p : Bool) : ((BitVec.ofBool p).setWidth 32).toNat = if p = true then 1 else 0 := by decide +revert

theorem slt_eight (X : BitVec 32) (h : X.toNat ≤ 16) : IntOp.cmpi .slt X 8#32 = BitVec.ofBool (decide (X.toNat < 8)) := by
  unfold IntOp.cmpi
  refine congrArg BitVec.ofBool ?_
  show X.slt 8#32 = _
  rw [BitVec.slt, BitVec.toInt_eq_toNat_of_lt (by omega)]
  have : (8#32 : BitVec 32).toInt = 8 := by decide
  rw [this]
  exact decide_eq_decide.mpr (by omega)

theorem rankOf_le (b : Fin 16 → Fin 16 → Bool) (i : Fin 16) : rankOf b i ≤ 16 := by
  unfold rankOf
  calc _ ≤ ∑ _j : Fin 16, 1 := Finset.sum_le_sum fun j _ => by split <;> omega
    _ = 16 := by simp

theorem posOf_le (p : Fin 16 → Bool) (i : Fin 16) : posOf p i ≤ 16 := by
  unfold posOf
  calc _ ≤ ∑ _j : Fin 16, 1 := Finset.sum_le_sum fun j _ => by split <;> omega
    _ = 16 := by simp

/-- A row count: a table of truth values widened and summed along the lanes. -/
theorem count_row (src : IVec S16x16 32) (i : Fin 16) (p : Fin 16 → Bool)
    (h : ∀ i' j : Fin 16, ∃ q : Bool, src (ix2 i' j) = (BitVec.ofBool q).setWidth 32 ∧ (i' = i → q = p j)) :
    (multiReductionI .add [1] S16 src 0#32 reduces_S16x16_S16 rfl (ix1 i)).toNat = ∑ j : Fin 16, if p j = true then 1 else 0 := by
  rw [rowSum]
  · refine Finset.sum_congr rfl fun j _ => ?_
    obtain ⟨q, hq, hp⟩ := h i j
    rw [hq, toNat_extui, hp rfl]
  · intro i' j
    obtain ⟨q, hq, -⟩ := h i' j
    rw [hq, toNat_extui]; split <;> omega

/-- The membership mask of the approximation, one row of it repeated: the frames fewer than eight others beat. -/
theorem pay10_at (s : Vec F S1x1x16 .f32) (i j : Fin 16) :
    k0_pay10 s (ix2 i j) = BitVec.ofBool (topHalf (beats .ogt s) j) := by
  have hc := count_row (extui 32 (ori (cmpf .ogt (k0_pay7 s) (k0_pay8 s)) (k0_pay9 s)) natLt_1_32) j (fun k => beats .ogt s k j)
    (fun i' k => ⟨beats .ogt s k i', by
      show (IntOp.ori (FloatOps.cmpf .ogt (k0_pay7 s (ix2 i' k)) (k0_pay8 s (ix2 i' k))) (k0_pay9 s (ix2 i' k))).setWidth 32 = _
      rw [pay7_at, pay8_at, pay9_at, ← ofBool_beq (FloatOps.cmpf .ogt _ _), ori_ofBool]; rfl, fun h => h ▸ rfl⟩)
  unfold k0_pay10
  rw [broadcastTo_1b_ab_apply, shapeCast_self, shapeCast_a_1a_apply]
  refine (slt_eight _ (hc.trans_le (rankOf_le (beats .ogt s) j))).trans ?_
  rw [hc]; rfl

/-- The membership mask of the detail. -/
theorem pay11_at (s : Vec F S1x1x16 .f32) (i j : Fin 16) :
    k0_pay11 s (ix2 i j) = BitVec.ofBool (topHalf (beats .olt s) j) := by
  have hc := count_row (extui 32 (ori (cmpf .olt (k0_pay7 s) (k0_pay8 s)) (k0_pay9 s)) natLt_1_32) j (fun k => beats .olt s k j)
    (fun i' k => ⟨beats .olt s k i', by
      show (IntOp.ori (FloatOps.cmpf .olt (k0_pay7 s (ix2 i' k)) (k0_pay8 s (ix2 i' k))) (k0_pay9 s (ix2 i' k))).setWidth 32 = _
      rw [pay7_at, pay8_at, pay9_at, ← ofBool_beq (FloatOps.cmpf .olt _ _), ori_ofBool]; rfl, fun h => h ▸ rfl⟩)
  unfold k0_pay11
  rw [broadcastTo_1b_ab_apply, shapeCast_self, shapeCast_a_1a_apply]
  refine (slt_eight _ (hc.trans_le (rankOf_le (beats .olt s) j))).trans ?_
  rw [hc]; rfl

theorem select_one_zero (p : Bool) : Scalar.select (BitVec.ofBool p) 1#32 0#32 = (BitVec.ofBool p).setWidth 32 := by decide +revert

/-- The count of the members before `i`, as the row sum of the masked table. -/
theorem pos_count (m : IVec S16x16 1) (p : Fin 16 → Bool) (hm : ∀ i j : Fin 16, m (ix2 i j) = BitVec.ofBool (p j)) (i : Fin 16) :
    (multiReductionI .add [1] S16 (select (andi (cmpi .slt (iota .tc S16x16 32 [1] iota_S16x16_d1_w32)
        (iota .tc S16x16 32 [0] iota_S16x16_d0_w32)) m) (broadcast S16x16 1#32) (broadcast S16x16 0#32)) 0#32
        reduces_S16x16_S16 rfl (ix1 i)).toNat = posOf p i := by
  have hc := count_row (select (andi (cmpi .slt (iota .tc S16x16 32 [1] iota_S16x16_d1_w32)
        (iota .tc S16x16 32 [0] iota_S16x16_d0_w32)) m) (broadcast S16x16 1#32) (broadcast S16x16 0#32)) i
    (fun k => decide (k < i) && p k) (fun i' k => ⟨decide (k < i') && p k, by
      show Scalar.select (IntOp.andi (IntOp.cmpi .slt (iota .tc S16x16 32 [1] iota_S16x16_d1_w32 (ix2 i' k))
        (iota .tc S16x16 32 [0] iota_S16x16_d0_w32 (ix2 i' k))) (m (ix2 i' k))) 1#32 0#32 = _
      rw [iota1_at, iota0_at, slt_ofNat, hm, andi_ofBool, select_one_zero], fun h => h ▸ rfl⟩)
  rw [hc]
  unfold posOf
  refine Finset.sum_congr rfl fun j _ => ?_
  simp only [Bool.and_eq_true, decide_eq_true_eq]

theorem row1_3 (k : Fin 16) : (S16.rowMajor (ix1 k)).val = (S1x1x16.rowMajor (ix3 0 0 k)).val := (row3_1 k).symm

/-- The word of row `k` of the table "k mod 8". -/
theorem pay14_at (i j : Fin 16) : k0_pay14 (ix2 i j) = BitVec.ofNat 32 (i.val % 8) := by
  unfold k0_pay14
  show IntOp.andi (iota .tc S16x16 32 [0] iota_S16x16_d0_w32 (ix2 i j)) 7#32 = _
  rw [iota0_at]
  decide +revert

theorem eq_ofNat (X : BitVec 32) (h : X.toNat ≤ 16) (i : Fin 16) :
    IntOp.cmpi .eq X (BitVec.ofNat 32 (i.val % 8)) = BitVec.ofBool (decide (X.toNat = i.val % 8)) := by
  unfold IntOp.cmpi
  refine congrArg BitVec.ofBool ?_
  show (X == _) = _
  rw [Bool.eq_iff_iff, beq_iff_eq, decide_eq_true_eq]
  constructor
  · rintro rfl; rw [BitVec.toNat_ofNat]; omega
  · intro hX; exact BitVec.eq_of_toNat_eq (by rw [BitVec.toNat_ofNat]; omega)

theorem toNat_select (p : Bool) (j : Fin 16) :
    (Scalar.select (BitVec.ofBool p) (BitVec.ofNat 32 j.val) 0#32).toNat = if p = true then j.val else 0 := by decide +revert

/-- The picked list from a membership mask and the table of places. -/
theorem pick_at (m : IVec S16x16 1) (q : IVec S16x16 32) (p : Fin 16 → Bool)
    (hm : ∀ i j : Fin 16, m (ix2 i j) = BitVec.ofBool (p j)) (hq : ∀ i j : Fin 16, (q (ix2 i j)).toNat = posOf p j) (k : Fin 16) :
    (multiReductionI .add [1] S16 (select (andi m (cmpi .eq q k0_pay14)) (iota .tc S16x16 32 [1] iota_S16x16_d1_w32)
      (broadcast S16x16 0#32)) 0#32 reduces_S16x16_S16 rfl (ix1 k)).toNat = kth p (k.val % 8) := by
  have he : ∀ i j : Fin 16, ((select (andi m (cmpi .eq q k0_pay14)) (iota .tc S16x16 32 [1] iota_S16x16_d1_w32)
      (broadcast S16x16 0#32) : IVec S16x16 32) (ix2 i j)).toNat = if p j = true ∧ posOf p j = i.val % 8 then j.val else 0 := by
    intro i j
    show (Scalar.select (IntOp.andi (m (ix2 i j)) (IntOp.cmpi .eq (q (ix2 i j)) (k0_pay14 (ix2 i j))))
      (iota .tc S16x16 32 [1] iota_S16x16_d1_w32 (ix2 i j)) 0#32).toNat = _
    rw [hm, pay14_at, eq_ofNat _ ((hq i j).trans_le (posOf_le p j)), andi_ofBool, iota1_at, toNat_select, hq]
    simp only [Bool.and_eq_true, decide_eq_true_eq]
  rw [rowSum]
  · exact Finset.sum_congr rfl fun j _ => he k j
  · intro i j
    rw [he]; have := j.isLt; split <;> omega

/-- Entry `k` of the approximation's list. -/
theorem selA_at (s : Vec F S1x1x16 .f32) (k : Fin 16) :
    (selA s (ix3 0 0 k) : BitVec 32).toNat = kth (topHalf (beats .ogt s)) (k.val % 8) := by
  rw [← pick_at (k0_pay10 s) (k0_pay15 s) _ (pay10_at s) ?_ k]
  · unfold selA k0_pay4
    exact congrArg BitVec.toNat (shapeCast_apply _ _ (ix3 0 0 k) (ix1 k) (row1_3 k))
  · intro i j
    rw [← pos_count (k0_pay10 s) _ (pay10_at s) j]
    unfold k0_pay15
    rw [broadcastTo_1b_ab_apply, shapeCast_self, shapeCast_a_1a_apply]
    rfl

/-- Entry `k` of the detail's list. -/
theorem selD_at (s : Vec F S1x1x16 .f32) (k : Fin 16) :
    (selD s (ix3 0 0 k) : BitVec 32).toNat = kth (topHalf (beats .olt s)) (k.val % 8) := by
  unfold selD k0_pay5
  refine (congrArg BitVec.toNat (shapeCast_apply _ _ (ix3 0 0 k) (ix1 k) (row1_3 k))).trans ?_
  refine pick_at (k0_pay11 s) _ _ (pay11_at s) ?_ k
  intro i j
  rw [← pos_count (k0_pay11 s) _ (pay11_at s) j]
  unfold k0_pay13
  rw [broadcastTo_1b_ab_apply, shapeCast_self, shapeCast_a_1a_apply]
  rfl

/-- An index of a 1 × 1 × 16 block is its last coordinate. -/
theorem eq_last (j : S1x1x16.Idx) : j = ix3 0 0 (j 2) :=
  (eq_ix3 j).trans (congrArg₂ (fun a b => ix3 a b (j 2)) (Subsingleton.elim (α := Fin 1) _ _) (Subsingleton.elim (α := Fin 1) _ _))

/-- Every entry of the approximation's list is a frame number. -/
theorem selA_lt (s : Vec F S1x1x16 .f32) (j : S1x1x16.Idx) : (selA s j : BitVec 32).toNat < 16 := by
  rw [eq_last j]; exact (selA_at s (j 2)).trans_lt (kth_lt _ _)

/-- Every entry of the detail's list is a frame number. -/
theorem selD_lt (s : Vec F S1x1x16 .f32) (j : S1x1x16.Idx) : (selD s j : BitVec 32).toNat < 16 := by
  rw [eq_last j]; exact (selD_at s (j 2)).trans_lt (kth_lt _ _)

end Cert.KernelIdeal.Score

end
-- ==== Proof.KernelIdeal.Arrays.lean ====
/-
  What the two pipelines leave in their output arrays, index by index: the two lists of frame numbers, one row of sixteen
  per batch member, and the picked frames.
-/
module

public import proofs.«01_k».proof.Proof.KernelIdeal.ScoreDat
public import proofs.«01_k».proof.Proof.KernelIdeal.GatherDat
public import proofs.«01_k».proof.Proof.KernelIdeal.SelRead
public import Idealize.ShloMosaic.Lib.Pipeline.ValueKit

@[expose] public section

set_option maxRecDepth 16384

noncomputable section

namespace Cert.KernelIdeal.Arrays

open Cert.KernelIdeal Cert.KernelIdeal.Gen
open Idealize.ShloMosaic Idealize.ShloMosaic.TcCoe
open Idealize.ShloMosaic.Pipeline (Dat Cfg Window)

variable {F : FTy → Type} [FloatOps F]

variable (V : (c : Dev nD) → (b : Ref sig .tc) → Buf (Elt F) ((c : Thread nD τ).loc b))

/-- The point at which batch member `b`'s score is finished is one of the grid's. -/
theorem last_lt (b : Fin 16) : b.val * 6 + 5 < cfg0.N := by
  have := b.isLt; exact Nat.lt_of_lt_of_eq (by omega : b.val * 6 + 5 < 96) N_0.symm

/-- Batch member `b`'s finished score. -/
def score (c : Dev nD) (b : Fin 16) : Vec F S1x1x16 .f32 := Score.scoreAt V c (b.val * 6 + 5) (last_lt b)

theorem score_eq (c : Dev nD) (t : Fin cfg0.N) (b : Fin 16) (h : t.val = b.val * 6 + 5) :
    Score.scoreAt V c t.val t.isLt = score V c b := by
  unfold score; congr 1

/-- The approximation's lists, all batch members. -/
def listA (c : Dev nD) : Vec F S16x1x16 .i32 := fun i => Score.selA (score V c (i 0)) (ValueIdx.ix3 0 0 (i 2))

/-- The detail's lists, all batch members. -/
def listD (c : Dev nD) : Vec F S16x1x16 .i32 := fun i => Score.selD (score V c (i 0)) (ValueIdx.ix3 0 0 (i 2))

theorem index0_2 : ∀ t : Fin cfg0.N, win0_2.index t = ![t.val / 6, 0, 0] := by decide +kernel
theorem index0_3 : ∀ t : Fin cfg0.N, win0_3.index t = ![t.val / 6, 0, 0] := by decide +kernel

/-- The first pipeline's output array number 2: the lists. -/
theorem listA_arr (c : Dev nD) : (Score.dat V c).arrAt 2 cfg0.N = listA V c := by
  refine (Score.dat V c).arrAt_eq_of_covers 2 _ (by decide +kernel) fun t hf y => ?_
  rw [Score.after_2]
  have ht := (flush0_2 t).mp hf
  have e0 : (((cfg0.win 2).blk t).view.emb y 0 : Nat) = t.val / 6 := by
    blk_simp [index0_2]
  have e2 : ((cfg0.win 2).blk t).view.emb y 2 = y 2 := Fin.ext (by blk_simp [index0_2])
  unfold listA
  rw [score_eq V c t (((cfg0.win 2).blk t).view.emb y 0) (by omega), e2]
  exact congrArg (Score.selA (score V c _)) (Score.eq_last y)

/-- The first pipeline's output array number 3: the lists. -/
theorem listD_arr (c : Dev nD) : (Score.dat V c).arrAt 3 cfg0.N = listD V c := by
  refine (Score.dat V c).arrAt_eq_of_covers 3 _ (by decide +kernel) fun t hf y => ?_
  rw [Score.after_3]
  have ht := (flush0_3 t).mp hf
  have e0 : (((cfg0.win 3).blk t).view.emb y 0 : Nat) = t.val / 6 := by
    blk_simp [index0_3]
  have e2 : ((cfg0.win 3).blk t).view.emb y 2 = y 2 := Fin.ext (by blk_simp [index0_3])
  unfold listD
  rw [score_eq V c t (((cfg0.win 3).blk t).view.emb y 0) (by omega), e2]
  exact congrArg (Score.selD (score V c _)) (Score.eq_last y)

/-! ## The picked frames -/

theorem index1_0 : ∀ t : Fin cfg1.N, win1_0.index t = ![t.val / 6, t.val % 6, 0, 0] := by decide +kernel
theorem index1_1 : ∀ t : Fin cfg1.N, win1_1.index t = ![0] := by decide +kernel
theorem index1_2 : ∀ t : Fin cfg1.N, win1_2.index t = ![0] := by decide +kernel
theorem index1_3 : ∀ t : Fin cfg1.N, win1_3.index t = ![t.val / 6, t.val % 6, 0, 0] := by decide +kernel
theorem index1_4 : ∀ t : Fin cfg1.N, win1_4.index t = ![t.val / 6, t.val % 6, 0, 0] := by decide +kernel

theorem coord1_0 (t : Fin cfg1.N) : (grid1.coords t 0).val = t.val / 6 := by
  have e : (grid1.coords t 0).val = t.val / 6 % 16 := Pipeline.Grid.coords_val t 0 (by decide) rfl
  have ht : t.val < 96 := Nat.lt_of_lt_of_eq t.isLt N_1
  rw [e]; exact Nat.mod_eq_of_lt (show t.val / 6 < 16 by omega)

/-- The picked frames, all batch members and channels, from the pixels and a list of frame numbers. -/
def picked (x : Vec F S16x768x16x196 .f32) (a : Vec F S256 .i32) : Vec F S16x768x8x196 .f32 :=
  fun i => x (ValueIdx.ix4 (i 0) (i 1) (Fin.ofNat 16 (a (ValueIdx.ix1 (Fin.ofNat 256 ((i 0).val * 16 + (i 2).val))) : BitVec 32).toNat) (i 3))

/-- The list's window holds the whole list. -/
theorem alist_eq (c : Dev nD) (t : Fin cfg1.N) : Gather.alist V c t = V c main_v1 := by
  funext y
  unfold Gather.alist
  blk_simp
  exact congrArg (V c main_v1) (funext fun a => Fin.ext (match a with | ⟨0, _⟩ => by blk_simp [index1_1]))

theorem dlist_eq (c : Dev nD) (t : Fin cfg1.N) : Gather.dlist V c t = V c main_v2 := by
  funext y
  unfold Gather.dlist
  blk_simp
  exact congrArg (V c main_v2) (funext fun a => Fin.ext (match a with | ⟨0, _⟩ => by blk_simp [index1_2]))

/-- One entry of the block of pixels a point reads. -/
theorem xblk1_at (c : Dev nD) (t : Fin cfg1.N) (j : S1x128x16x196.Idx) (k : S16x768x16x196.Idx)
    (h0 : (k 0).val = t.val / 6) (h1 : (k 1).val = t.val % 6 * 128 + (j 1).val) (h2 : (k 2).val = (j 2).val) (h3 : (k 3).val = (j 3).val) :
    Gather.xblk V c t j = V c main_arg0 k := by
  unfold Gather.xblk
  blk_simp
  refine congrArg (V c main_arg0) (funext fun a => Fin.ext ?_)
  match a with
  | ⟨0, _⟩ => blk_simp [index1_0]; exact h0.symm
  | ⟨1, _⟩ => blk_simp [index1_0]; exact h1.symm
  | ⟨2, _⟩ => blk_simp [index1_0]; exact h2.symm
  | ⟨3, _⟩ => blk_simp [index1_0]; exact h3.symm

/-- The approximation's frames. -/
theorem out3 (c : Dev nD) : (Gather.dat V c).arrAt 3 cfg1.N = picked (V c main_arg0) (V c main_v1) := by
  refine (Gather.dat V c).arrAt_eq_of_covers 3 _ (by decide +kernel) fun t hf y => ?_
  rw [Gather.after_3, alist_eq]
  have e0 : (((cfg1.win 3).blk t).view.emb y 0 : Nat) = t.val / 6 := by blk_simp [index1_3]
  have e1 : (((cfg1.win 3).blk t).view.emb y 1 : Nat) = t.val % 6 * 128 + (y 1).val := by blk_simp [index1_3]
  have e2 : (((cfg1.win 3).blk t).view.emb y 2 : Nat) = (y 2).val := by blk_simp [index1_3]
  have e3 : (((cfg1.win 3).blk t).view.emb y 3 : Nat) = (y 3).val := by blk_simp [index1_3]
  unfold picked
  refine xblk1_at V c t _ _ e0 e1 ?_ e3
  show (Fin.ofNat 16 _).val = (Fin.ofNat 16 _).val
  rw [e0, e2, coord1_0]

/-- The detail's frames. -/
theorem out4 (c : Dev nD) : (Gather.dat V c).arrAt 4 cfg1.N = picked (V c main_arg0) (V c main_v2) := by
  refine (Gather.dat V c).arrAt_eq_of_covers 4 _ (by decide +kernel) fun t hf y => ?_
  rw [Gather.after_4, dlist_eq]
  have e0 : (((cfg1.win 4).blk t).view.emb y 0 : Nat) = t.val / 6 := by blk_simp [index1_4]
  have e1 : (((cfg1.win 4).blk t).view.emb y 1 : Nat) = t.val % 6 * 128 + (y 1).val := by blk_simp [index1_4]
  have e2 : (((cfg1.win 4).blk t).view.emb y 2 : Nat) = (y 2).val := by blk_simp [index1_4]
  have e3 : (((cfg1.win 4).blk t).view.emb y 3 : Nat) = (y 3).val := by blk_simp [index1_4]
  unfold picked
  refine xblk1_at V c t _ _ e0 e1 ?_ e3
  show (Fin.ofNat 16 _).val = (Fin.ofNat 16 _).val
  rw [e0, e2, coord1_0]

/-! ## The pixels the scoring kernel reads -/

theorem index0_0 : ∀ t : Fin cfg0.N, win0_0.index t = ![t.val / 6, t.val % 6, 0, 0] := by decide +kernel

/-- One entry of the block of pixels a point of the scoring kernel reads. -/
theorem xblk0_at (c : Dev nD) (t : Fin cfg0.N) (j : S1x128x16x196.Idx) (k : S16x768x16x196.Idx)
    (h0 : (k 0).val = t.val / 6) (h1 : (k 1).val = t.val % 6 * 128 + (j 1).val) (h2 : (k 2).val = (j 2).val) (h3 : (k 3).val = (j 3).val) :
    Score.xblk V c t j = V c main_arg0 k := by
  unfold Score.xblk
  blk_simp
  refine congrArg (V c main_arg0) (funext fun a => Fin.ext ?_)
  match a with
  | ⟨0, _⟩ => blk_simp [index0_0]; exact h0.symm
  | ⟨1, _⟩ => blk_simp [index0_0]; exact h1.symm
  | ⟨2, _⟩ => blk_simp [index0_0]; exact h2.symm
  | ⟨3, _⟩ => blk_simp [index0_0]; exact h3.symm

end Cert.KernelIdeal.Arrays

end
-- ==== Proof.KernelIdeal.Run.lean ====
/-
  The whole kernel run: both regions and the host lines between them, from any memory to the two results as functions of
  the argument. Result 0 is `picked x (lists of the approximation)`, result 1 `picked x (lists of the detail)`.
-/
module

public import proofs.«01_k».proof.Proof.KernelIdeal.Regs
public import proofs.«01_k».proof.Proof.KernelIdeal.Arrays

@[expose] public section

set_option maxRecDepth 16384

noncomputable section

namespace Cert.KernelIdeal.Run

open Cert.KernelIdeal Cert.KernelIdeal.Gen Cert.KernelIdeal.Regs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The buffers region 0 finds. -/
def ent0 (c : Dev nD) (b : Ref sig .tc) : Buf (Elt F) ((c : Thread nD τ).loc b) := Gen.V0 m c b

/-- What region 0 leaves. -/
def outs1 : Outs (F := F) := fun _ r c => Pipeline.afterRegion (Score.dat (ent0 m) c) (Gen.V0 m c) r

/-- The buffers region 1 finds. -/
def ent1 (c : Dev nD) (b : Ref sig .tc) : Buf (Elt F) ((c : Thread nD τ).loc b) := Gen.V2 m (outs1 m) c b

/-- What each region leaves in the buffers it writes. -/
def outs : Outs (F := F) := fun J r c =>
  match J with
  | 1 => outs1 m 1 r c
  | _ => Pipeline.afterRegion (Gather.dat (ent1 m) c) (Gen.V2 m (outs1 m) c) r

theorem V2_outs (c : Dev nD) : Gen.V2 m (outs m) c = Gen.V2 m (outs1 m) c := rfl

/-- The buffers after region 0. -/
def lv0 (c : Dev nD) (b : Ref sig .tc) : Buf (Elt F) ((c : Thread nD τ).loc b) := Gen.V1 m (outs m) c b

/-- The buffers at the end. -/
def lv1 (c : Dev nD) (b : Ref sig .tc) : Buf (Elt F) ((c : Thread nD τ).loc b) := Gen.V3 m (outs m) c b

theorem V1_0 (c : Dev nD) : Gen.V1 m (outs m) c main_v0_0 = outs1 m 1 main_v0_0 c := by
  rw [Gen.V1, Function.update_of_ne (StableHlo.devRef_ne_of_ne (by decide)), Function.update_of_ne (StableHlo.devRef_ne_of_ne (by decide)),
    Function.update_self]; rfl
theorem V1_1 (c : Dev nD) : Gen.V1 m (outs m) c main_v0_1 = outs1 m 1 main_v0_1 c := by
  rw [Gen.V1, Function.update_of_ne (StableHlo.devRef_ne_of_ne (by decide)), Function.update_self]; rfl
theorem V1_2 (c : Dev nD) : Gen.V1 m (outs m) c main_v0_2 = outs1 m 1 main_v0_2 c := by
  rw [Gen.V1, Function.update_self]; rfl
theorem V3_0 (c : Dev nD) : Gen.V3 m (outs m) c main_v3_0 = outs m 3 main_v3_0 c := by
  rw [Gen.V3, Function.update_of_ne (StableHlo.devRef_ne_of_ne (by decide)), Function.update_self]
theorem V3_1 (c : Dev nD) : Gen.V3 m (outs m) c main_v3_1 = outs m 3 main_v3_1 c := by
  rw [Gen.V3, Function.update_self]

theorem outs1_arr (c : Dev nD) (w : Fin cfg0.W) :
    outs1 m 1 (Pipeline.arrRef spec0 w) c = (Score.dat (ent0 m) c).arrAt w cfg0.N :=
  Pipeline.afterRegion_arr (Score.dat (ent0 m) c) (Gen.V0 m c) launch0.win.arr_inj w

theorem outs3_arr (c : Dev nD) (w : Fin cfg1.W) :
    outs m 3 (Pipeline.arrRef spec1 w) c = (Gather.dat (ent1 m) c).arrAt w cfg1.N :=
  Pipeline.afterRegion_arr (Gather.dat (ent1 m) c) (Gen.V2 m (outs1 m) c) launch1.win.arr_inj w

/-- Region 0's arrays at its end are the buffers' contents there. -/
theorem hw0 (c : Dev nD) (w : Fin cfg0.W) : (Score.dat (ent0 m) c).arrAt w cfg0.N = lv0 m c (Pipeline.arrRef spec0 w) := by
  match w with
  | ⟨0, _⟩ => exact ((Score.dat (ent0 m) c).arrAt_in 0 rfl _).trans (Gen.V1_of m (outs m) c main_arg0 (by decide)).symm
  | ⟨1, _⟩ => exact ((V1_0 m c).trans (outs1_arr m c 1)).symm
  | ⟨2, _⟩ => exact ((V1_1 m c).trans (outs1_arr m c 2)).symm
  | ⟨3, _⟩ => exact ((V1_2 m c).trans (outs1_arr m c 3)).symm

theorem hne0 (c : Dev nD) (b : Ref sig .tc) (h : ∀ w, b ≠ Pipeline.arrRef spec0 w) : lv0 m c b = ent0 m c b :=
  Gen.V1_of m (outs m) c b (by
    simp only [List.mem_cons, List.not_mem_nil, or_false, not_or]
    exact ⟨h 1, h 2, h 3⟩)

/-- Region 1's arrays at its end are the buffers' contents there. -/
theorem hw1 (c : Dev nD) (w : Fin cfg1.W) : (Gather.dat (ent1 m) c).arrAt w cfg1.N = lv1 m c (Pipeline.arrRef spec1 w) := by
  match w with
  | ⟨0, _⟩ => exact ((Gather.dat (ent1 m) c).arrAt_in 0 rfl _).trans (Gen.V3_of m (outs m) c main_arg0 (by decide)).symm
  | ⟨1, _⟩ => exact ((Gather.dat (ent1 m) c).arrAt_in 1 rfl _).trans (Gen.V3_of m (outs m) c main_v1 (by decide)).symm
  | ⟨2, _⟩ => exact ((Gather.dat (ent1 m) c).arrAt_in 2 rfl _).trans (Gen.V3_of m (outs m) c main_v2 (by decide)).symm
  | ⟨3, _⟩ => exact ((V3_0 m c).trans (outs3_arr m c 3)).symm
  | ⟨4, _⟩ => exact ((V3_1 m c).trans (outs3_arr m c 4)).symm

theorem hne1 (c : Dev nD) (b : Ref sig .tc) (h : ∀ w, b ≠ Pipeline.arrRef spec1 w) : lv1 m c b = ent1 m c b :=
  Gen.V3_of m (outs m) c b (by
    simp only [List.mem_cons, List.not_mem_nil, or_false, not_or]
    exact ⟨h 3, h 4⟩)

/-! ## The lists between the regions -/

/-- Region 1 finds the approximation's lists in one row. -/
theorem ent1_v1 (c : Dev nD) : ent1 m c main_v1 = shapeCast S256 (Arrays.listA (ent0 m) c) shapeCasts_S16x1x16_S256 := by
  rw [← Arrays.listA_arr, hw0]
  show StableHlo.after hostOps1 (Gen.V1 m (outs m) c) main_v1 = _
  simp only [hostOps1]
  after_results
  rfl

/-- Region 1 finds the detail's lists in one row. -/
theorem ent1_v2 (c : Dev nD) : ent1 m c main_v2 = shapeCast S256 (Arrays.listD (ent0 m) c) shapeCasts_S16x1x16_S256 := by
  rw [← Arrays.listD_arr, hw0]
  show StableHlo.after hostOps1 (Gen.V1 m (outs m) c) main_v2 = _
  simp only [hostOps1]
  after_results
  rfl

/-- Region 1 finds the argument. -/
theorem ent1_arg (c : Dev nD) : ent1 m c main_arg0 = m ((c : Thread nD τ).loc main_arg0) :=
  (Gen.V2_of m (outs1 m) c main_arg0 (by decide)).trans (Gen.V1_of m (outs1 m) c main_arg0 (by decide))

theorem ha (c : Dev nD) (t : Fin cfg1.N) (j) : (Gather.alist (ent1 m) c t j : BitVec 32).toNat < 16 := by
  rw [Arrays.alist_eq, ent1_v1]; exact Score.selA_lt _ _

theorem hd (c : Dev nD) (t : Fin cfg1.N) (j) : (Gather.dlist (ent1 m) c t j : BitVec 32).toNat < 16 := by
  rw [Arrays.dlist_eq, ent1_v2]; exact Score.selD_lt _ _

/-! ## The regions, and the run -/

abbrev R0 := reg0 (ent0 m) (ent1 m) (lv0 m) (hw0 m) (hne0 m)
abbrev R1 := reg1 (ent0 m) (ent1 m) (lv1 m) (ha m) (hd m) (hw1 m) (hne1 m)

/-- What rides along between the items: the core owes nothing. -/
abbrev E : Fin 3 → Dev nD → sProp 𝕄 := fun _ c => iprop(∃ W, owes (c : Thread nD τ) (0 : CellTallies nD τ sig Unit) W)

theorem at_held (c : Dev nD) (W : Valuation τ sig (Elt F)) :
    (StableHlo.held (c : Thread nD τ) (Pipeline.ucRefs τ sig) W : sProp 𝕄) = unscopedBufs c (fun b => W b) :=
  (Pipeline.unscopedBufs_held (Ix := Unit) (Name := ℕ) (U := UR sig nD τ) (Lvl := ℕ) c W).symm

set_option backward.isDefEq.respectTransparency.types false in
/-- Every fair execution of the kernel from memory `m` with zero counters ends with its argument as launched, result 0 the
    rows of the argument named by the approximation's lists, result 1 those named by the detail's lists, and every counter at
    zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v3_0) = lv1 m c main_v3_0
      ∧ r.2.mem ((c.tc : Thread nD τ).loc main_v3_1) = lv1 m c main_v3_1)
      ∧ r.2.sem = fun _ => 0) := by
  refine Pipeline.θ_run_regions_kit_dev_sems (pcfgs (F := F)) adm (pdats (ent0 m) (ent1 m)) () cellOf_inj
    (emb₁ : Emb (URounds (GSem nD τ sig) Unit) 𝕄) defs₀ 𝒱₀ L lv m ρ main
    (Gen.segs m (outs m) 𝒱₀ L lv E () (pdats (ent0 m) (ent1 m)) (R0 m) (R1 m))
    (fun c Q => by
      rewrite [main_chain c, Pipeline.Seg.run_eq_chain,
        show (Gen.segs m (outs m) 𝒱₀ L lv E () (pdats (ent0 m) (ent1 m)) (R0 m) (R1 m) c).map Pipeline.Seg.prog = [
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V3 m (outs m) c))
    (hch := fun c => ⟨?_, ?_, ?_, ?_⟩)
    (hinit := ?_)
    (QY := fun c s => s.mem ((c.tc : Thread nD τ).loc main_arg0) = m ((c.tc : Thread nD τ).loc main_arg0)
      ∧ s.mem ((c.tc : Thread nD τ).loc main_v3_0) = lv1 m c main_v3_0
      ∧ s.mem ((c.tc : Thread nD τ).loc main_v3_1) = lv1 m c main_v3_1)
    (hfin := fun c s' => ?_) (hQ := fun _ h hz => ⟨h, funext fun g => hz g (.inr (regions_no_unscoped g.2))⟩)
  · have hu : ∀ P : sProp 𝕄, P ⊢ |={Set.univ}=> iprop(P ∗ bigSep (Finset.univ : Finset (Dev nD)) fun _ => BI.emp) := fun P => by
      rw [BI.bigSep_emp_const]
      iintro H
      imodintro
      isplitl [H]; · iexact H
      iempintro
    exact hu _
  · exact sep_mono (Entails.of_eq (at_held c _)) .rfl
  · exact sep_mono (Entails.of_eq (at_held c _).symm) .rfl
  · exact sep_mono (Entails.of_eq (at_held c _)) .rfl
  · exact sep_mono (Entails.of_eq (at_held c _).symm) .rfl
  · have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ iprop(StableHlo.held (c : Thread nD τ) (Pipeline.ucRefs τ sig) (Gen.V0 m c) ∗ E 0 c) := fun c => by
      rw [at_held]
      iintro ⟨Hb, -, HO, -, -, -⟩
      isplitl [Hb]; · iexact Hb
      iexists ∅; iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ bigSep Finset.univ fun c : Dev nD => iprop(StableHlo.held (c : Thread nD τ) (Pipeline.ucRefs τ sig) (Gen.V0 m c) ∗ E 0 c) :=
      BI.bigSep_mono fun c _ => hone c
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (Gen.V3 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans
          (Gen.V3_main_arg0 m (outs m) c),
        h (Proc.devRef .tc main_v3_0) (Finset.mem_filter.mpr ⟨StableHlo.devRef_mem_tcRefs main_v3_0, by decide⟩),
        h (Proc.devRef .tc main_v3_1) (Finset.mem_filter.mpr ⟨StableHlo.devRef_mem_tcRefs main_v3_1, by decide⟩)⟩
    · iexact HSI

/-- Result 0: the rows the approximation's lists name. -/
theorem result0 (c : Dev nD) : lv1 m c main_v3_0
    = Arrays.picked (m ((c : Thread nD τ).loc main_arg0)) (shapeCast S256 (Arrays.listA (ent0 m) c) shapeCasts_S16x1x16_S256) := by
  rw [← ent1_arg m c, ← ent1_v1, ← Arrays.out3]; exact (hw1 m c 3).symm

/-- Result 1: the rows the detail's lists name. -/
theorem result1 (c : Dev nD) : lv1 m c main_v3_1
    = Arrays.picked (m ((c : Thread nD τ).loc main_arg0)) (shapeCast S256 (Arrays.listD (ent0 m) c) shapeCasts_S16x1x16_S256) := by
  rw [← ent1_arg m c, ← ent1_v2, ← Arrays.out4]; exact (hw1 m c 4).symm

end Cert.KernelIdeal.Run

end
-- ==== Proof.Reals.lean ====
/- Sums of reals: a sum taken in the extended reals, and a sum over a product of extents split into two. -/
module

public import Mathlib.Data.EReal.Operations
public import Mathlib.Algebra.BigOperators.Fin

@[expose] public section

namespace Cert.Reals

/-- A finite sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over m·k places is a sum over m rows of k. -/
theorem sum_split {m k n : ℕ} {M : Type} [AddCommMonoid M] (hn : n = m * k) (f : Fin n → M) :
    ∑ i, f i = ∑ a : Fin m, ∑ b : Fin k, f ⟨a.val * k + b.val, by
      subst hn
      calc a.val * k + b.val < a.val * k + k := by omega
        _ = (a.val + 1) * k := by ring
        _ ≤ m * k := Nat.mul_le_mul_right k a.isLt⟩ := by
  subst hn
  rw [← finProdFinEquiv.sum_comp, Fintype.sum_prod_type]
  refine Finset.sum_congr rfl fun a _ => Finset.sum_congr rfl fun b _ => congrArg f (Fin.ext ?_)
  show b.val + k * a.val = a.val * k + b.val
  ring

/-- A sum over the indices that satisfy a condition, which name the members of a family once each. -/
theorem sum_fiber {ι κ M : Type} [Fintype ι] [Fintype κ] [DecidableEq ι] [AddCommMonoid M] (p : ι → Prop) [DecidablePred p] (g : κ → ι)
    (hg : Function.Injective g) (h : ∀ i, p i ↔ ∃ k, g k = i) (v : ι → M) : ∑ i ∈ Finset.univ.filter p, v i = ∑ k, v (g k) := by
  rw [show Finset.univ.filter p = Finset.univ.image g from by ext i; simp [h], Finset.sum_image fun _ _ _ _ e => hg e]

end Cert.Reals
-- ==== Proof.KernelIdeal.Value.lean ====
/- The score of the score kernel over the extended reals, of a block of real values: the block's share and the sum of
   the shares. -/
module

public import proofs.«01_k».proof.Proof.KernelIdeal.SelRead
public import proofs.«01_k».proof.Proof.Reals
public import Idealize.ShloMosaic.Lib.Pipeline.Value
public import Idealize.ShloMosaic.PureOps.Ideal.Laws

@[expose] public section

noncomputable section

namespace Cert.KernelIdeal.Value

open Cert.KernelIdeal Cert.KernelIdeal.Gen Cert.KernelIdeal.Score Idealize.ShloMosaic Idealize.ShloMosaic.TcCoe
open Idealize.ShloMosaic.ValueIdx

/-- The lane of the other patch of a lane's horizontal pair, on the 14×14 patch grid. -/
def pw (q : Fin 196) : Fin 196 := if q.val % 14 % 2 = 0 then ⟨(q.val + 1) % 196, by omega⟩ else ⟨(q.val + 195) % 196, by omega⟩

/-- The lane of the other patch of a lane's vertical pair. -/
def ph (q : Fin 196) : Fin 196 := if q.val / 14 % 2 = 0 then ⟨(q.val + 14) % 196, by omega⟩ else ⟨(q.val + 182) % 196, by omega⟩

/-- A matrix's columns turned round: columns b on, then the first b. -/
theorem turn_at {m n a b : ℕ} {α : Type} (hn : n = a + b) (x : (⟨2, ![m, n]⟩ : Shape).Idx → α)
    (h1 : (⟨2, ![m, n]⟩ : Shape).Slices ![0, b] ⟨2, ![m, a]⟩) (h2 : (⟨2, ![m, n]⟩ : Shape).Slices ![0, 0] ⟨2, ![m, b]⟩)
    (hc : Shape.Concatenates [⟨2, ![m, a]⟩, ⟨2, ![m, b]⟩] ⟨2, ![m, n]⟩ 1) (r : Fin m) (q : Fin n) (hq : (q.val + b) % n < n) :
    concatenate ⟨2, ![m, n]⟩ 1 [⟨⟨2, ![m, a]⟩, extractStridedSlice ⟨2, ![m, a]⟩ ![0, b] x h1⟩, ⟨⟨2, ![m, b]⟩, extractStridedSlice ⟨2, ![m, b]⟩ ![0, 0] x h2⟩] hc (ix2 r q)
      = x (ix2 r ⟨(q.val + b) % n, hq⟩) := by
  have hqn := q.isLt
  by_cases h : q.val < a
  · refine (concatenate_pair_apply_left (t := ⟨2, ![m, n]⟩) (s₁ := ⟨2, ![m, a]⟩) (s₂ := ⟨2, ![m, b]⟩) (1 : Fin 2) _ _ hc (ix2 r q) rfl (ix2 r ⟨q.val, h⟩) (fun c => by
      match c with
      | ⟨0, _⟩ => rfl
      | ⟨1, _⟩ => rfl)).trans ?_
    unfold extractStridedSlice
    refine congrArg x (funext fun c => Fin.ext ?_)
    match c with
    | ⟨0, _⟩ => exact Nat.zero_add _
    | ⟨1, _⟩ =>
      show b + q.val = (q.val + b) % n
      rw [Nat.mod_eq_of_lt (by omega)]; omega
  · refine (concatenate_pair_apply_right (t := ⟨2, ![m, n]⟩) (s₁ := ⟨2, ![m, a]⟩) (s₂ := ⟨2, ![m, b]⟩) (1 : Fin 2) _ _ hc (ix2 r q) rfl rfl (ix2 r ⟨q.val - a, by omega⟩) (fun c hc => by
      match c with
      | ⟨0, _⟩ => rfl
      | ⟨1, _⟩ => exact absurd rfl hc) (by
      show q.val - a + a = q.val
      omega)).trans ?_
    unfold extractStridedSlice
    refine congrArg x (funext fun c => Fin.ext ?_)
    match c with
    | ⟨0, _⟩ => exact Nat.zero_add _
    | ⟨1, _⟩ =>
      show 0 + (q.val - a) = (q.val + b) % n
      rw [show q.val + b = (q.val - a) + n by omega, Nat.add_mod_right, Nat.mod_eq_of_lt (by omega)]; omega

/-- The remainder that is not negative, of a word by a positive one, from the remainder `r` of the division. -/
def liftMod (r k : BitVec 32) : BitVec 32 :=
  Scalar.select (IntOp.andi (IntOp.xori (IntOp.cmpi .slt r 0#32) (IntOp.cmpi .slt k 0#32)) (IntOp.cmpi .ne r 0#32)) (IntOp.addi r k) r

/-- The remainder that is not negative, of a word by a positive one. -/
def floorMod (n k : BitVec 32) : BitVec 32 := liftMod (IntOp.remsi .vector n k) k

/-- The quotient by 14 rounded down, of a word. -/
def floorDiv14 (n : BitVec 32) : BitVec 32 :=
  Scalar.select (IntOp.andi (IntOp.cmpi .ne (IntOp.subi ((IntOp.cmpi .sgt n 0#32).setWidth 32) ((IntOp.cmpi .slt n 0#32).setWidth 32)) 1#32)
    (IntOp.cmpi .ne (IntOp.remsi .vector n 14#32) 0#32)) (IntOp.subi (IntOp.divsi .vector n 14#32) 1#32) (IntOp.divsi .vector n 14#32)

/-- The lanes' numbers. -/
theorem iota_at (r : Fin 128) (q : Fin 196) : iota .tc S128x196 32 [1] iota_S128x196_d1_w32 (ix2 r q) = BitVec.ofNat 32 q.val :=
  iota_single_apply .tc S128x196 32 1 iota_S128x196_d1_w32 (ix2 r q)

/-- A lane's column on the patch grid. -/
theorem pay18_at (r : Fin 128) (q : Fin 196) : k0_pay18 (ix2 r q) = floorMod (BitVec.ofNat 32 q.val) 14#32 :=
  (show k0_pay18 (ix2 r q) = floorMod (iota .tc S128x196 32 [1] iota_S128x196_d1_w32 (ix2 r q)) 14#32 from rfl).trans (by rw [iota_at])

/-- A lane's row on the patch grid, modulo 2. -/
theorem pay24_at (r : Fin 128) (q : Fin 196) : k0_pay24 k0_pay19 k0_pay20 (ix2 r q) = IntOp.remsi .vector (floorDiv14 (BitVec.ofNat 32 q.val)) 2#32 :=
  (show k0_pay24 k0_pay19 k0_pay20 (ix2 r q) = IntOp.remsi .vector (floorDiv14 (iota .tc S128x196 32 [1] iota_S128x196_d1_w32 (ix2 r q))) 2#32 from rfl).trans (by rw [iota_at])

/-- Whether a lane's column is even. -/
theorem col_even : ∀ q : Fin 196, IntOp.cmpi .eq (floorMod (floorMod (BitVec.ofNat 32 q.val) 14#32) 2#32) 0#32 = BitVec.ofBool (decide (q.val % 14 % 2 = 0)) := by
  decide +kernel

/-- Whether a lane's row is even. -/
theorem row_even : ∀ q : Fin 196, IntOp.cmpi .eq (floorMod (floorDiv14 (BitVec.ofNat 32 q.val)) 2#32) 0#32 = BitVec.ofBool (decide (q.val / 14 % 2 = 0)) := by
  decide +kernel

theorem if_ofBool {α : Type} (p : Prop) [Decidable p] (x y : α) : (if BitVec.ofBool (decide p) = 1#1 then x else y) = if p then x else y := by
  by_cases h : p <;> simp [h]

/-- A lane plus the lane's horizontal partner. -/
theorem pay21_at (S : FVec Ideal S128x196 .f32) (r : Fin 128) (q : Fin 196) :
    k0_pay21 S k0_pay18 (ix2 r q) = S (ix2 r q) + S (ix2 r (pw q)) := by
  have e1 := turn_at (m := 128) (n := 196) (a := 195) (b := 1) rfl S slices_S128x196_o0_1_S128x195 slices_S128x196_o0_0_S128x1
    concatenates_S128x195_S128x1_S128x196_d1 r q (Nat.mod_lt _ (by decide))
  have e2 := turn_at (m := 128) (n := 196) (a := 1) (b := 195) rfl S slices_S128x196_o0_195_S128x1 slices_S128x196_o0_0_S128x195
    concatenates_S128x1_S128x195_S128x196_d1 r q (Nat.mod_lt _ (by decide))
  have hm : IntOp.cmpi .eq (floorMod (k0_pay18 (ix2 r q)) 2#32) 0#32 = BitVec.ofBool (decide (q.val % 14 % 2 = 0)) := by
    rw [pay18_at]; exact col_even q
  refine (show k0_pay21 S k0_pay18 (ix2 r q) = S (ix2 r q) + (if IntOp.cmpi .eq (floorMod (k0_pay18 (ix2 r q)) 2#32) 0#32 = 1#1
    then concatenate S128x196 1 [⟨S128x195, extractStridedSlice S128x195 ![0, 1] S slices_S128x196_o0_1_S128x195⟩, ⟨S128x1, extractStridedSlice S128x1 ![0, 0] S slices_S128x196_o0_0_S128x1⟩] concatenates_S128x195_S128x1_S128x196_d1 (ix2 r q)
    else concatenate S128x196 1 [⟨S128x1, extractStridedSlice S128x1 ![0, 195] S slices_S128x196_o0_195_S128x1⟩, ⟨S128x195, extractStridedSlice S128x195 ![0, 0] S slices_S128x196_o0_0_S128x195⟩] concatenates_S128x1_S128x195_S128x196_d1 (ix2 r q)) from rfl).trans ?_
  rw [hm, if_ofBool]
  unfold pw
  split
  · exact congrArg (S (ix2 r q) + ·) e1
  · exact congrArg (S (ix2 r q) + ·) e2

/-- The cell sums: a lane plus its horizontal partner, plus the same at its vertical partner. -/
def cell (S : FVec Ideal S128x196 .f32) : FVec Ideal S128x196 .f32 :=
  addf (k0_pay21 S k0_pay18) (select (cmpi .eq (select (andi (xori (k0_pay26 k0_pay19 k0_pay20) k0_pay27) (k0_pay25 k0_pay19 k0_pay20))
    (addi (k0_pay24 k0_pay19 k0_pay20) (broadcast S128x196 (Scalar.select (Scalar.cmpi .eq 2#32 0#32) 1#32 2#32))) (k0_pay24 k0_pay19 k0_pay20)) (broadcast S128x196 0#32))
    (k0_pay22 S k0_pay18) (k0_pay23 S k0_pay18))

theorem cell_at (S : FVec Ideal S128x196 .f32) (r : Fin 128) (q : Fin 196) :
    cell S (ix2 r q) = (S (ix2 r q) + S (ix2 r (pw q))) + (S (ix2 r (ph q)) + S (ix2 r (pw (ph q)))) := by
  have e1 := turn_at (m := 128) (n := 196) (a := 182) (b := 14) rfl (k0_pay21 S k0_pay18) slices_S128x196_o0_14_S128x182 slices_S128x196_o0_0_S128x14
    concatenates_S128x182_S128x14_S128x196_d1 r q (Nat.mod_lt _ (by decide))
  have e2 := turn_at (m := 128) (n := 196) (a := 14) (b := 182) rfl (k0_pay21 S k0_pay18) slices_S128x196_o0_182_S128x14 slices_S128x196_o0_0_S128x182
    concatenates_S128x14_S128x182_S128x196_d1 r q (Nat.mod_lt _ (by decide))
  have hm : IntOp.cmpi .eq (liftMod (k0_pay24 k0_pay19 k0_pay20 (ix2 r q)) 2#32) 0#32 = BitVec.ofBool (decide (q.val / 14 % 2 = 0)) := by
    rw [pay24_at]; exact row_even q
  refine (show cell S (ix2 r q) = k0_pay21 S k0_pay18 (ix2 r q) + (if IntOp.cmpi .eq (liftMod (k0_pay24 k0_pay19 k0_pay20 (ix2 r q)) 2#32) 0#32 = 1#1
    then k0_pay22 S k0_pay18 (ix2 r q) else k0_pay23 S k0_pay18 (ix2 r q)) from rfl).trans ?_
  rw [hm, if_ofBool, ← pay21_at, ← pay21_at]
  unfold ph
  split
  · exact congrArg (k0_pay21 S k0_pay18 (ix2 r q) + ·) e1
  · exact congrArg (k0_pay21 S k0_pay18 (ix2 r q) + ·) e2

/-- The sum over the frames. -/
theorem frames_at (v : FVec Ideal S128x16x196 .f32) (r : Fin 128) (q : Fin 196) :
    multiReduction .add [1] S128x196 v 0x00000000#32 reduces_S128x16x196_S128x196 (.inl rfl) rfl (ix2 r q) = ∑ t : Fin 16, v (ix3 r t q) := by
  refine (show _ = ∑ i ∈ Finset.univ.filter (fun i => reduces_S128x16x196_S128x196.drop i = ix2 r q), v i from rfl).trans ?_
  refine Cert.Reals.sum_fiber _ (fun t : Fin 16 => (ix3 r t q : S128x16x196.Idx)) (fun t t' e => congrFun e 1) (fun i => ?_) v
  constructor
  · intro e
    refine ⟨i 1, funext fun a => Fin.ext ?_⟩
    match a with
    | ⟨0, _⟩ => exact (congrArg Fin.val (congrFun e 0)).symm
    | ⟨1, _⟩ => rfl
    | ⟨2, _⟩ => exact (congrArg Fin.val (congrFun e 1)).symm
  · rintro ⟨t, rfl⟩
    funext a
    match a with
    | ⟨0, _⟩ => rfl
    | ⟨1, _⟩ => rfl

/-- The sum over the channels and the patches. -/
theorem lanes_at (v : FVec Ideal S128x16x196 .f32) (t : Fin 16) :
    multiReduction .add [0, 2] S16 v 0x00000000#32 reduces_S128x16x196_S16 (.inl rfl) rfl (ix1 t) = ∑ r : Fin 128, ∑ q : Fin 196, v (ix3 r t q) := by
  refine (show _ = ∑ i ∈ Finset.univ.filter (fun i => reduces_S128x16x196_S16.drop i = ix1 t), v i from rfl).trans ?_
  refine (Cert.Reals.sum_fiber _ (fun k : Fin 128 × Fin 196 => (ix3 k.1 t k.2 : S128x16x196.Idx)) (fun k k' e => Prod.ext (congrFun e 0) (congrFun e 2)) (fun i => ?_) v).trans
    (Fintype.sum_prod_type _)
  constructor
  · intro e
    refine ⟨(i 0, i 2), funext fun a => Fin.ext ?_⟩
    match a with
    | ⟨0, _⟩ => rfl
    | ⟨1, _⟩ => exact (congrArg Fin.val (congrFun e 0)).symm
    | ⟨2, _⟩ => rfl
  · rintro ⟨k, rfl⟩
    funext a
    match a with
    | ⟨0, _⟩ => rfl

/-- The scale of a share, as a real. -/
def scale : ℝ := 11184811 / 2199023255552

theorem scale_eq : Ideal.ofBits .f32 0x36AAAAAB#32 = (scale : EReal) := by
  simp [Ideal.ofBits, Ideal.ieee, scale, -EReal.coe_mul]; norm_num

/-- What is added to a frame's score: one on the even frames. -/
def prior (t : Fin 16) : ℝ := if t.val % 2 = 0 then 1 else 0

/-- The frames' numbers. -/
theorem iota16_at (t : Fin 16) : iota .tc S1x16 32 [1] iota_S1x16_d1_w32 (ix2 (0 : Fin 1) t) = BitVec.ofNat 32 t.val :=
  iota_single_apply .tc S1x16 32 1 iota_S1x16_d1_w32 (ix2 (0 : Fin 1) t)

theorem prior_word : ∀ t : Fin 16, (IntOp.subi 1#32 (floorMod (BitVec.ofNat 32 t.val) 2#32)).toInt = if t.val % 2 = 0 then 1 else 0 := by
  decide +kernel

/-- A block's share of a frame's score, of a block of reals. -/
def share (R : Fin 128 → Fin 16 → Fin 196 → ℝ) (t : Fin 16) : ℝ :=
  (∑ r : Fin 128, ∑ q : Fin 196, R r t q * ((∑ s : Fin 16, R r s q + ∑ s : Fin 16, R r s (pw q)) + (∑ s : Fin 16, R r s (ph q) + ∑ s : Fin 16, R r s (pw (ph q))))) * scale

variable (x : FVec Ideal S1x128x16x196 .f32) (R : Fin 128 → Fin 16 → Fin 196 → ℝ) (hx : ∀ r t q, x (ix4 (0 : Fin 1) r t q) = (R r t q : EReal))

include hx

theorem pay16_at (r : Fin 128) (t : Fin 16) (q : Fin 196) : k0_pay16 (F := Ideal) x (ix3 r t q) = (R r t q : EReal) := by
  rw [← hx]
  exact shapeCast_apply _ _ _ _ (by simp [Shape.rowMajor_val_four, Shape.rowMajor_val_three])

theorem pay17_at (r : Fin 128) (q : Fin 196) : k0_pay17 (F := Ideal) x (ix2 r q) = ((∑ t : Fin 16, R r t q : ℝ) : EReal) := by
  rw [Cert.Reals.coe_sum]
  exact (frames_at _ r q).trans (Finset.sum_congr rfl fun t _ => pay16_at x R hx r t q)

/-- A block's share of a frame's score. -/
theorem pay1_at (t : Fin 16) :
    k0_pay1 (F := Ideal) (k0_pay16 x) (k0_pay21 (k0_pay17 x) k0_pay18) (k0_pay22 (k0_pay17 x) k0_pay18) (k0_pay23 (k0_pay17 x) k0_pay18)
      (Scalar.select (Scalar.cmpi .eq 2#32 0#32) 1#32 2#32) (k0_pay24 k0_pay19 k0_pay20) (k0_pay25 k0_pay19 k0_pay20)
      (k0_pay26 k0_pay19 k0_pay20) k0_pay27 (ix1 t) = (share R t : EReal) := by
  have hb (r : Fin 128) (q : Fin 196) : broadcastTo S128x16x196 (shapeCast S128x1x196 (cell (k0_pay17 x)) shapeCasts_S128x196_S128x1x196) broadcasts_S128x1x196_S128x16x196 (ix3 r t q)
      = cell (k0_pay17 x) (ix2 r q) :=
    (broadcastTo_apply _ _ _ (ix3 r (0 : Fin 1) q) (fun a => by
      match a with
      | ⟨0, _⟩ => rfl
      | ⟨1, _⟩ => rfl
      | ⟨2, _⟩ => rfl)).trans (shapeCast_apply _ _ _ _ (by simp [Shape.rowMajor_val_two, Shape.rowMajor_val_three]))
  refine (show _ = multiReduction .add [0, 2] S16 (mulf (k0_pay16 x) (broadcastTo S128x16x196 (shapeCast S128x1x196 (cell (k0_pay17 x)) shapeCasts_S128x196_S128x1x196) broadcasts_S128x1x196_S128x16x196))
    0x00000000#32 reduces_S128x16x196_S16 (.inl rfl) rfl (ix1 t) * Ideal.ofBits .f32 0x36AAAAAB#32 from rfl).trans ?_
  rw [lanes_at, scale_eq, share, EReal.coe_mul, Cert.Reals.coe_sum]
  refine congrArg (· * (scale : EReal)) (Finset.sum_congr rfl fun r _ => ?_)
  rw [Cert.Reals.coe_sum]
  refine Finset.sum_congr rfl fun q _ => ?_
  refine (show _ = k0_pay16 x (ix3 r t q) * broadcastTo S128x16x196 (shapeCast S128x1x196 (cell (k0_pay17 x)) shapeCasts_S128x196_S128x1x196) broadcasts_S128x1x196_S128x16x196 (ix3 r t q) from rfl).trans ?_
  rw [hb, cell_at, pay16_at x R hx, pay17_at x R hx, pay17_at x R hx, pay17_at x R hx, pay17_at x R hx]
  simp only [EReal.coe_mul, EReal.coe_add]

/-- The score begun at a first block. -/
theorem scoreFirst_at (t : Fin 16) : scoreFirst (F := Ideal) x (ix3 (0 : Fin 1) (0 : Fin 1) t) = ((share R t + prior t : ℝ) : EReal) := by
  have hi : shapeCast S16 (iota .tc S1x16 32 [1] iota_S1x16_d1_w32) shapeCasts_S1x16_S16 (ix1 t) = BitVec.ofNat 32 t.val :=
    (shapeCast_apply _ _ _ (ix2 (0 : Fin 1) t) (by simp [Shape.rowMajor_val_one, Shape.rowMajor_val_two])).trans (iota16_at t)
  unfold scoreFirst k0_pay2
  refine (shapeCast_apply _ shapeCasts_S16_S1x1x16 _ (ix1 t) (by simp [Shape.rowMajor_val_one, Shape.rowMajor_val_three])).trans ?_
  refine (show _ = k0_pay1 (F := Ideal) (k0_pay16 x) (k0_pay21 (k0_pay17 x) k0_pay18) (k0_pay22 (k0_pay17 x) k0_pay18) (k0_pay23 (k0_pay17 x) k0_pay18)
      (Scalar.select (Scalar.cmpi .eq 2#32 0#32) 1#32 2#32) (k0_pay24 k0_pay19 k0_pay20) (k0_pay25 k0_pay19 k0_pay20)
      (k0_pay26 k0_pay19 k0_pay20) k0_pay27 (ix1 t)
      + (((IntOp.subi 1#32 (floorMod (shapeCast S16 (iota .tc S1x16 32 [1] iota_S1x16_d1_w32) shapeCasts_S1x16_S16 (ix1 t)) 2#32)).toInt : ℝ) : EReal) from rfl).trans ?_
  rw [pay1_at x R hx, hi, EReal.coe_add]
  refine congrArg ((share R t : EReal) + ·) ?_
  unfold prior
  rw [prior_word]
  split <;> simp

/-- The score after a later block. -/
theorem scoreNext_at (s : FVec Ideal S1x1x16 .f32) (v : ℝ) (t : Fin 16) (hs : s (ix3 (0 : Fin 1) (0 : Fin 1) t) = (v : EReal)) :
    scoreNext (F := Ideal) x s (ix3 (0 : Fin 1) (0 : Fin 1) t) = ((v + share R t : ℝ) : EReal) := by
  unfold scoreNext k0_pay3
  refine (shapeCast_apply _ shapeCasts_S16_S1x1x16 _ (ix1 t) (by simp [Shape.rowMajor_val_one, Shape.rowMajor_val_three])).trans ?_
  refine (show _ = shapeCast S16 s shapeCasts_S1x1x16_S16 (ix1 t) + k0_pay1 (k0_pay16 x) (k0_pay21 (k0_pay17 x) k0_pay18) (k0_pay22 (k0_pay17 x) k0_pay18) (k0_pay23 (k0_pay17 x) k0_pay18)
      (Scalar.select (Scalar.cmpi .eq 2#32 0#32) 1#32 2#32) (k0_pay24 k0_pay19 k0_pay20) (k0_pay25 k0_pay19 k0_pay20)
      (k0_pay26 k0_pay19 k0_pay20) k0_pay27 (ix1 t) from rfl).trans ?_
  rw [pay1_at x R hx, EReal.coe_add, ← hs]
  exact congrArg (· + (share R t : EReal)) (shapeCast_apply _ _ _ _ (by simp [Shape.rowMajor_val_one, Shape.rowMajor_val_three]))

end Cert.KernelIdeal.Value
-- ==== Proof.Squares.lean ====
/- The 2×2 squares of a 14×14 image whose values lie in one row of 196 lanes. -/
module

public import proofs.«01_k».proof.Proof.Reals

@[expose] public section

noncomputable section

namespace Cert.Squares

/-- The lane of the patch at place (i, j) of the 2×2 square (p, r). -/
def pos (p : Fin 7) (i : Fin 2) (r : Fin 7) (j : Fin 2) : Fin 196 := ⟨(p.val * 2 + i.val) * 14 + (r.val * 2 + j.val), by omega⟩

/-- A sum over the lanes, square by square. -/
theorem sum_squares {M : Type} [AddCommMonoid M] (f : Fin 196 → M) :
    ∑ q, f q = ∑ p : Fin 7, ∑ r : Fin 7, ∑ i : Fin 2, ∑ j : Fin 2, f (pos p i r j) := by
  rw [Cert.Reals.sum_split (m := 14) (k := 14) rfl f, Cert.Reals.sum_split (m := 7) (k := 2) rfl]
  refine Finset.sum_congr rfl fun p _ => ?_
  rw [Finset.sum_comm (γ := Fin 7)]
  exact Finset.sum_congr rfl fun i _ => Cert.Reals.sum_split (m := 7) (k := 2) rfl _

/-- The sum of a frame's four values in a square. -/
def square (f : Fin 16 → Fin 196 → ℝ) (t : Fin 16) (p r : Fin 7) : ℝ := ∑ i : Fin 2, ∑ j : Fin 2, f t (pos p i r j)

end Cert.Squares
-- ==== Proof.KernelIdeal.Total.lean ====
/- The finished score of an argument of reals, and the same number as inner products of 2×2 sums. -/
module

public import proofs.«01_k».proof.Proof.KernelIdeal.Value
public import proofs.«01_k».proof.Proof.KernelIdeal.Arrays
public import proofs.«01_k».proof.Proof.Squares
public import Mathlib.Tactic.Ring

@[expose] public section

noncomputable section

namespace Cert.KernelIdeal.Value

open Cert.KernelIdeal Cert.KernelIdeal.Gen Cert.KernelIdeal.Score Cert.Squares Idealize.ShloMosaic Idealize.ShloMosaic.TcCoe

/-! The partners of a lane in its square. -/

theorem pw_pos0 : ∀ (p : Fin 7) (i : Fin 2) (r : Fin 7), pw (pos p i r 0) = pos p i r 1 := by decide +kernel
theorem pw_pos1 : ∀ (p : Fin 7) (i : Fin 2) (r : Fin 7), pw (pos p i r 1) = pos p i r 0 := by decide +kernel
theorem ph_pos0 : ∀ (p : Fin 7) (r : Fin 7) (j : Fin 2), ph (pos p 0 r j) = pos p 1 r j := by decide +kernel
theorem ph_pos1 : ∀ (p : Fin 7) (r : Fin 7) (j : Fin 2), ph (pos p 1 r j) = pos p 0 r j := by decide +kernel

/-- One channel's part of a score: each value times its square's sum over all the frames is the inner products of the
    frame's square sums with every frame's. -/
theorem channel_eq (f : Fin 16 → Fin 196 → ℝ) (t : Fin 16) :
    ∑ q : Fin 196, f t q * ((∑ s : Fin 16, f s q + ∑ s : Fin 16, f s (pw q)) + (∑ s : Fin 16, f s (ph q) + ∑ s : Fin 16, f s (pw (ph q))))
      = ∑ s : Fin 16, ∑ p : Fin 7, ∑ r : Fin 7, square f t p r * square f s p r := by
  rw [sum_squares]
  refine Eq.trans ?_ Finset.sum_comm
  refine Finset.sum_congr rfl fun p _ => ?_
  refine Eq.trans ?_ Finset.sum_comm
  refine Finset.sum_congr rfl fun r _ => ?_
  rw [← Finset.mul_sum]
  simp only [square, Fin.sum_univ_two, pw_pos0, pw_pos1, ph_pos0, ph_pos1, Finset.sum_add_distrib]
  ring

/-- The block of channels number `e` of a batch member. -/
def blk (X : Fin 16 → Fin 768 → Fin 16 → Fin 196 → ℝ) (b : Fin 16) (e : ℕ) : Fin 128 → Fin 16 → Fin 196 → ℝ :=
  fun r t q => X b (Fin.ofNat 768 (e * 128 + r.val)) t q

variable (V : (c : Dev nD) → (b : Ref sig .tc) → Buf (Elt Ideal) ((c : Thread nD τ).loc b)) (c : Dev nD)
  (X : Fin 16 → Fin 768 → Fin 16 → Fin 196 → ℝ)
  (hX : ∀ b e t q, (V c main_arg0 : FVec Ideal S16x768x16x196 .f32) (ValueIdx.ix4 b e t q) = (X b e t q : EReal))

include hX

theorem xblk_real (b : Fin 16) (e : ℕ) (he : e < 6) (h : b.val * 6 + e < cfg0.N) (r : Fin 128) (t : Fin 16) (q : Fin 196) :
    (Score.xblk V c ⟨b.val * 6 + e, h⟩ : FVec Ideal S1x128x16x196 .f32) (ValueIdx.ix4 (0 : Fin 1) r t q) = (blk X b e r t q : EReal) := by
  rw [blk, ← hX]
  refine Arrays.xblk0_at V c ⟨b.val * 6 + e, h⟩ _ _ ?_ ?_ rfl rfl
  · show b.val = (b.val * 6 + e) / 6
    omega
  · show (e * 128 + r.val) % 768 = (b.val * 6 + e) % 6 * 128 + r.val
    have := r.isLt
    omega

/-- The score after channel block `e`: the shares so far and the prior. -/
theorem scoreAt_real (b : Fin 16) (t : Fin 16) : ∀ (e : ℕ) (he : e < 6) (h : b.val * 6 + e < cfg0.N),
    (Score.scoreAt V c (b.val * 6 + e) h : FVec Ideal S1x1x16 .f32) (ValueIdx.ix3 (0 : Fin 1) (0 : Fin 1) t)
      = ((∑ i ∈ Finset.range (e + 1), share (blk X b i) t + prior t : ℝ) : EReal)
  | 0, he, h => by
    rw [Score.scoreAt_first V c _ h (by omega), Finset.sum_range_one]
    exact scoreFirst_at _ _ (xblk_real V c X hX b 0 he h) t
  | e + 1, he, h => by
    have ih := scoreAt_real b t e (by omega) (by omega)
    rw [Score.scoreAt_next V c _ h (by omega), Finset.sum_range_succ, add_right_comm]
    exact scoreNext_at _ _ (xblk_real V c X hX b (e + 1) he h) _ _ t ih

/-- The finished score: the scaled inner products of a frame's square sums with every frame's, and the prior. -/
theorem score_real (b t : Fin 16) :
    (Arrays.score V c b : FVec Ideal S1x1x16 .f32) (ValueIdx.ix3 (0 : Fin 1) (0 : Fin 1) t)
      = (((∑ e : Fin 768, ∑ s : Fin 16, ∑ p : Fin 7, ∑ r : Fin 7, square (X b e) t p r * square (X b e) s p r) * scale + prior t : ℝ) : EReal) := by
  refine (scoreAt_real V c X hX b t 5 (by omega) _).trans (congrArg (fun v : ℝ => (v : EReal)) (congrArg (· + prior t) ?_))
  rw [Finset.sum_range]
  unfold share
  rw [← Finset.sum_mul]
  refine congrArg (· * scale) ?_
  rw [Cert.Reals.sum_split (m := 6) (k := 128) rfl]
  refine Finset.sum_congr rfl fun e _ => Finset.sum_congr rfl fun r _ => ?_
  rw [← channel_eq]
  have hb : (fun s q => blk X b e.val r s q) = X b ⟨e.val * 128 + r.val, by omega⟩ := by
    funext s q
    exact congrArg (fun k => X b k s q) (Fin.ext (Nat.mod_eq_of_lt (by omega)))
  exact congrArg (fun f : Fin 16 → Fin 196 → ℝ => ∑ q : Fin 196, f t q * ((∑ s : Fin 16, f s q + ∑ s : Fin 16, f s (pw q)) + (∑ s : Fin 16, f s (ph q) + ∑ s : Fin 16, f s (pw (ph q))))) hb

end Cert.KernelIdeal.Value
-- ==== Proof.Ranks.lean ====
/-
  Picking eight of sixteen by sorting: the first eight places of a stable sort hold the elements fewer than eight others beat,
  and eight distinct numbers in increasing order are the members at places 0 to 7.
-/
module

public import proofs.«01_k».proof.Proof.Select
public import Idealize.ShloMosaic.Lib.SortFacts
public import Mathlib.Order.Fin.Basic

@[expose] public section

namespace Cert.Select

open Idealize.ShloMosaic

variable {α : Type} [LinearOrder α]

/-- `j` beats `i`: its value is greater, or equal and it comes first. -/
def greater (v : Fin 16 → α) (j i : Fin 16) : Bool := decide (v i < v j) || (decide (v j = v i) && decide (j < i))

theorem greater_iff (v : Fin 16 → α) (j i : Fin 16) : greater v j i = true ↔ v i < v j ∨ (v j = v i ∧ j < i) := by
  unfold greater; simp

theorem greater_false_iff (v : Fin 16 → α) (j i : Fin 16) : greater v j i = false ↔ v j < v i ∨ (v j = v i ∧ i ≤ j) := by
  rw [← Bool.not_eq_true, greater_iff]
  constructor
  · intro h
    rcases lt_trichotomy (v j) (v i) with hl | hl | hl
    · exact .inl hl
    · exact .inr ⟨hl, not_lt.1 fun hh => h (.inr ⟨hl, hh⟩)⟩
    · exact absurd (.inl hl) h
  · rintro (h | ⟨h, h'⟩) (k | ⟨k, k'⟩)
    · exact lt_asymm h k
    · exact h.ne k
    · exact k.ne h.symm
    · exact absurd k' (not_lt.2 h')

/-- A stable sort by the values alone is a stable sort by "beats": where two values are equal the sort keeps the earlier first. -/
theorem insertBefore_greater (v : Fin 16 → α) (a : Fin 16) (l : List (Fin 16)) (h : ∀ b ∈ l, a < b) :
    insertBefore (fun k k' => decide (v k' < v k)) a l = insertBefore (greater v) a l := by
  refine insertBefore_congr _ _ a l fun b hb => ?_
  unfold greater
  have := h b hb
  simp [not_lt.2 this.le]

theorem stableSort_greater (v : Fin 16 → α) (l : List (Fin 16)) (h : l.Pairwise (· < ·)) :
    stableSort (fun k k' => decide (v k' < v k)) l = stableSort (greater v) l := by
  induction l with
  | nil => rfl
  | cons a l ih =>
    rw [List.pairwise_cons] at h
    unfold stableSort
    rw [ih h.2, insertBefore_greater]
    exact fun b hb => h.1 b ((perm_stableSort _ l).mem_iff.mp hb)

/-- Sorts with one list of positions have one element at each place. -/
theorem sortedFrom_eq {n : ℕ} {R R' : Fin n → Fin n → Bool} (h : sortPositions n R = sortPositions n R') :
    sortedFrom R = sortedFrom R' := by
  funext k
  unfold sortedFrom
  rw [List.get_of_eq h]
  rfl

theorem sortedFrom_greater (v : Fin 16 → α) :
    sortedFrom (fun k k' : Fin 16 => decide (v k' < v k)) = sortedFrom (greater v) := by
  refine sortedFrom_eq ?_
  unfold sortPositions
  exact stableSort_greater v _ (List.pairwise_lt_finRange 16)

/-- In the sorted order an earlier place beats a later one. -/
theorem sorted_beats (v : Fin 16 → α) (i j : Fin 16) (hij : i < j) :
    greater v (sortedFrom (greater v) i) (sortedFrom (greater v) j) = true := by
  have h := sortedFrom_noInversion (greater v) (greater v)
    (fun a b hab => by
      rw [greater_iff] at hab; rw [greater_false_iff]
      rcases hab with h | ⟨h, h'⟩
      · exact .inl h
      · exact .inr ⟨h.symm, h'.le⟩) (fun _ _ h => h)
    (fun a b c hab hbc => by
      rw [greater_false_iff] at *
      rcases hab with h | ⟨h, h'⟩ <;> rcases hbc with k | ⟨k, k'⟩
      · exact .inl (h.trans k)
      · exact .inl (k ▸ h)
      · exact .inl (h ▸ k)
      · exact .inr ⟨h.trans k, k'.trans h'⟩) i j hij
  have hne : sortedFrom (greater v) i ≠ sortedFrom (greater v) j := fun e => hij.ne (sortedFrom_injective _ e)
  rw [greater_false_iff] at h; rw [greater_iff]
  rcases h with h | ⟨h, h'⟩
  · exact .inl h
  · exact .inr ⟨h.symm, lt_of_le_of_ne h' hne⟩

/-- The element at place `k` of the sorted order is beaten by exactly `k` others. -/
theorem rank_sorted (v : Fin 16 → α) (k : Fin 16) : rankOf (greater v) (sortedFrom (greater v) k) = k.val := by
  have e : Function.Bijective (sortedFrom (greater v)) := ⟨sortedFrom_injective _, sortedFrom_surjective _⟩
  unfold rankOf
  rw [← e.sum_comp fun j => if greater v j (sortedFrom (greater v) k) = true then 1 else 0]
  have h : ∀ i : Fin 16, (if greater v (sortedFrom (greater v) i) (sortedFrom (greater v) k) = true then 1 else 0)
      = if i < k then 1 else 0 := fun i => by
    rcases lt_trichotomy i k with hl | hl | hl
    · rw [if_pos (sorted_beats v i k hl), if_pos hl]
    · subst hl
      rw [if_neg (lt_irrefl _), if_neg]
      rw [Bool.not_eq_true, greater_false_iff]; exact .inr ⟨rfl, le_rfl⟩
    · rw [if_neg (lt_asymm hl), if_neg]
      intro h
      have h' := sorted_beats v k i hl
      rw [greater_iff] at h h'
      rcases h with h | ⟨h, g⟩ <;> rcases h' with k' | ⟨k', g'⟩
      · exact lt_asymm h k'
      · exact h.ne k'.symm.symm
      · exact k'.ne h.symm.symm
      · exact lt_asymm g g'
  simp only [h]
  rw [Finset.sum_boole, show (Finset.univ.filter fun i : Fin 16 => i < k) = Finset.Iio k from by ext; simp, Fin.card_Iio]
  rfl

/-- The elements fewer than eight others beat are those in the first eight places. -/
theorem topHalf_iff (v : Fin 16 → α) (j : Fin 16) :
    topHalf (greater v) j = true ↔ ∃ k : Fin 16, k.val < 8 ∧ sortedFrom (greater v) k = j := by
  unfold topHalf
  rw [decide_eq_true_eq]
  constructor
  · intro h
    obtain ⟨k, rfl⟩ := sortedFrom_surjective (greater v) j
    exact ⟨k, by rwa [rank_sorted] at h, rfl⟩
  · rintro ⟨k, hk, rfl⟩
    rwa [rank_sorted]

/-- Eight members in increasing order are the members at places 0 to 7. -/
theorem kth_of_mono (p : Fin 16 → Bool) (r : Fin 8 → Fin 16) (hr : StrictMono r) (h : ∀ j, p j = true ↔ ∃ k, r k = j) (k : Fin 8) :
    kth p k.val = (r k).val := by
  have hp : posOf p (r k) = k.val := by
    unfold posOf
    have : (Finset.univ.filter fun j : Fin 16 => j < r k ∧ p j = true) = (Finset.Iio k).image r := by
      ext j
      simp only [Finset.mem_filter, Finset.mem_univ, true_and, Finset.mem_image, Finset.mem_Iio, h]
      constructor
      · rintro ⟨hj, k', rfl⟩; exact ⟨k', hr.lt_iff_lt.1 hj, rfl⟩
      · rintro ⟨k', hk', rfl⟩; exact ⟨hr hk', k', rfl⟩
    rw [Finset.sum_boole, this, Finset.card_image_of_injective _ hr.injective]
    simp
  rw [← hp]
  exact kth_eq ((h _).2 ⟨k, rfl⟩)

/-- Eight distinct numbers below sixteen, as words, sorted: in increasing order, and the same numbers. -/
theorem sorted_words (w : Fin 8 → BitVec 32) (hlt : ∀ k, (w k).toNat < 16) (hinj : Function.Injective w) :
    StrictMono fun k : Fin 8 => (⟨(w (sortedFrom (fun k k' => IntOp.cmpi .slt (w k) (w k') == 1#1) k)).toNat, hlt _⟩ : Fin 16) := by
  have hb : ∀ k k', (IntOp.cmpi .slt (w k) (w k') == 1#1) = decide ((w k).toNat < (w k').toNat) := fun k k' => by
    have h1 := hlt k; have h2 := hlt k'
    have e1 : (w k).toInt = (w k).toNat := BitVec.toInt_eq_toNat_of_lt (by omega)
    have e2 : (w k').toInt = (w k').toNat := BitVec.toInt_eq_toNat_of_lt (by omega)
    by_cases h : (w k).toNat < (w k').toNat
    · simp [IntOp.cmpi, BitVec.slt, e1, e2, h]
    · simp [IntOp.cmpi, BitVec.slt, e1, e2, h]
  intro i j hij
  have h := sortedFrom_noInversion (fun k k' => IntOp.cmpi .slt (w k) (w k') == 1#1) (fun k k' => IntOp.cmpi .slt (w k) (w k') == 1#1)
    (fun a b => by simp only [hb]; simp; omega) (fun _ _ h => h) (fun a b c => by simp only [hb]; simp; omega) i j hij
  rw [hb, decide_eq_false_iff_not, not_lt] at h
  refine lt_of_le_of_ne h fun e => hij.ne (sortedFrom_injective _ (hinj (BitVec.eq_of_toNat_eq (Fin.mk.inj_iff.1 e))))

end Cert.Select
-- ==== Proof.RefRead.lean ====
/- The reference's two results, cut into stages and read at an index: the frames' scores, the sorted list of the eight
   best frames, and the frames taken along that list. -/
module

public import proofs.«01_k».proof.Proof.Gen.ReferenceIdeal.Run
public import proofs.«01_k».proof.Proof.Ranks
public import Idealize.ShloMosaic.Lib.ValueIdx
public import Idealize.ShloMosaic.Lib.ReduceAll
public import Idealize.ShloMosaic.Lib.Pipeline.Value
public import Idealize.ShloMosaic.Lib.SortFacts

@[expose] public section

noncomputable section

namespace Cert.RefRead

open Cert.ReferenceIdeal Cert.ReferenceIdeal.Gen Cert.Select Idealize.ShloMosaic Idealize.ShloMosaic.TcCoe Idealize.SL.Sem Idealize.ShloMosaic.StableHlo
open Idealize.ShloMosaic.ValueIdx Idealize.ShloMosaic.Pipeline

/-- The reference's argument: a value for each batch entry, channel, frame and patch. -/
abbrev Arg := FVec Ideal S16x768x16x196 .f32

/-- The 2×2 means of every frame's channel images, one row of 7·7·768 features per batch entry and frame. -/
def pooled (x : Arg) : FVec Ideal S16x16x37632 .f32 :=
  shapeCast _ (transpose S16x16x7x7x768 [0, 1, 3, 4, 2] (Host.divf (Host.reduceAdd (shapeCast _ (transpose S16x16x768x14x14 [0, 2, 1, 3, 4] (shapeCast _ x shapeCasts_S16x768x16x196_S16x768x16x14x14) transposes_S16x768x16x14x14_S16x16x768x14x14_0_2_1_3_4) shapeCasts_S16x16x768x14x14_S16x16x768x7x2x7x2) (constant S_ .f32 0x00000000#32) reducesTo_S16x16x768x7x2x7x2_S16x16x768x7x7_d4_6 h_S_) (broadcastInDim S16x16x768x7x7 ![] bcast_S_S16x16x768x7x7 (constant S_ .f32 0x40800000#32))) transposes_S16x16x768x7x7_S16x16x7x7x768_0_1_3_4_2) shapeCasts_S16x16x7x7x768_S16x16x37632

/-- A frame's score: the mean of its scaled inner products with every frame, plus one on the even frames. -/
def scores (x : Arg) : FVec Ideal S16x16 .f32 :=
  addf (Host.divf (Host.reduceAdd (Host.dotGeneral dot_S16x16x37632_S16x37632x16_S16x16x16_2_1_1_2_0_0 none (mulf (broadcastInDim S16x16x37632 ![] bcast_S_S16x16x37632 (constant S_ .f32 0x3AAAAAAB#32)) (pooled x)) (transpose S16x37632x16 [0, 2, 1] (pooled x) transposes_S16x16x37632_S16x37632x16_0_2_1)) (constant S_ .f32 0x00000000#32) reducesTo_S16x16x16_S16x16_d2 h_S_) (broadcastInDim S16x16 ![] bcast_S_S16x16 (constant S_ .f32 0x41800000#32))) (broadcastInDim S16x16 ![0, 1] bcast_S1x16_S16x16_0_1 (broadcastInDim S1x16 ![1] bcast_S16_S1x16_1 (shapeCast _ (broadcastInDim S8x2 ![0, 1] bcast_S1x2_S8x2_0_1 (shapeCast _ ((fun i => FloatOps.ofBits .f32 (lit0 (S2.rowMajor i)))) shapeCasts_S2_S1x2)) shapeCasts_S8x2_S16)))

/-- The eight frames of greatest score, in increasing order, one row per batch entry. -/
def lists (s : FVec Ideal S16x16 .f32) : IVec S16x8 32 :=
  Host.sort S16x8 1 comparator_i32_d1 ((Host.topK S16x8 1 (FloatOps.cmpfTotal .gt) s sliceFits_S16x16_S16x8).2)

/-- The lists as start indices: a negative entry counts from the end. -/
def starts (l : IVec S16x8 32) : IVec S16x8x1 32 :=
  shapeCast _ (select (cmpi .slt (broadcastInDim S16x8x1x1 ![0, 1] bcast_S16x8_S16x8x1x1_0_1 l) (broadcastInDim S16x8x1x1 ![] bcast_S_S16x8x1x1 (constantI S_ 32 0#32))) (addi (broadcastInDim S16x8x1x1 ![0, 1] bcast_S16x8_S16x8x1x1_0_1 l) (broadcastInDim S16x8x1x1 ![] bcast_S_S16x8x1x1 (constantI S_ 32 16#32))) (broadcastInDim S16x8x1x1 ![0, 1] bcast_S16x8_S16x8x1x1_0_1 l)) shapeCasts_S16x8x1x1_S16x8x1

/-- Which entries of the lists name a frame. -/
def inRange (l : IVec S16x8 32) : IVec S16x8 1 :=
  Host.reduce IntOp.andi (andi (cmpi .sge (starts l) (broadcastInDim S16x8x1 ![] bcast_S_S16x8x1 (constantI S_ 32 0#32))) (cmpi .sle (starts l) (broadcastInDim S16x8x1 ![0, 1, 2] bcast_S1x1x1_S16x8x1_0_1_2 (broadcastInDim S1x1x1 ![2] bcast_S1_S1x1x1_2 (constantI S1 32 15#32))))) (constantI S_ 1 1#1) reducesTo_S16x8x1_S16x8_d2 h_S_

/-- The argument's frames along the lists. -/
def take (x : Arg) (l : IVec S16x8 32) : FVec Ideal S16x768x8x196 .f32 :=
  transpose S16x768x8x196 [0, 2, 1, 3] (select (broadcastInDim S16x8x768x196 ![0, 1] bcast_S16x8_S16x8x768x196_0_1 (inRange l)) (Host.gather gather_S16x16x768x196_S16x8x1_S16x8x768x196_23_1_0_0_1_2_11768196 (transpose S16x16x768x196 [0, 2, 1, 3] x transposes_S16x768x16x196_S16x16x768x196_0_2_1_3) (starts l)) (broadcastInDim S16x8x768x196 ![] bcast_S_S16x8x768x196 (constant S_ .f32 0x7FC00000#32))) transposes_S16x8x768x196_S16x768x8x196_0_2_1_3

/-- The reference's first result: the frames along the list of the scores. -/
theorem res0 (m : (ℓ : Loc nD τ sig) → Buf (Elt Ideal) ℓ) (c : Dev nD) :
    Value.res_main_v27 (F := Ideal) m c = take (m ((c.tc : Thread nD τ).loc main_arg0)) (lists (scores (m ((c.tc : Thread nD τ).loc main_arg0)))) := by
  unfold Value.res_main_v27
  rfl

/-- The reference's second result: the frames along the list of the scores' negations. -/
theorem res1 (m : (ℓ : Loc nD τ sig) → Buf (Elt Ideal) ℓ) (c : Dev nD) :
    Value.res_main_v30 (F := Ideal) m c = take (m ((c.tc : Thread nD τ).loc main_arg0)) (lists (Host.negf (F := Ideal) (scores (m ((c.tc : Thread nD τ).loc main_arg0))))) := by
  unfold Value.res_main_v30
  rfl

/-- A start index is the list's entry, when that names a frame. -/
theorem starts_at (l : IVec S16x8 32) (hl : ∀ j, (l j).toNat < 16) (b : Fin 16) (k : Fin 8) (z : Fin 1) :
    starts l (ix3 b k z) = l (ix2 b k) := by
  obtain rfl : z = 0 := Subsingleton.elim _ _
  unfold starts
  rw [shapeCast_apply _ _ (ix3 b k 0) (ix4 b k (0 : Fin 1) (0 : Fin 1)) (by simp [Shape.rowMajor_val_four, Shape.rowMajor_val_three])]
  have e : broadcastInDim S16x8x1x1 ![0, 1] bcast_S16x8_S16x8x1x1_0_1 l (ix4 b k (0 : Fin 1) (0 : Fin 1)) = l (ix2 b k) :=
    broadcastInDim_apply _ _ _ _ _ fun a => by
      match a with
      | ⟨0, _⟩ => simp
      | ⟨1, _⟩ => simp
  have hlt := hl (ix2 b k)
  have hneg : ¬ (l (ix2 b k)).slt 0#32 := by
    rw [BitVec.slt_iff_toInt_lt, BitVec.toInt_eq_toNat_of_lt (by omega)]
    simp
  show (if IntOp.cmpi .slt (broadcastInDim S16x8x1x1 ![0, 1] bcast_S16x8_S16x8x1x1_0_1 l (ix4 b k (0 : Fin 1) (0 : Fin 1))) 0#32 = 1#1 then _
    else broadcastInDim S16x8x1x1 ![0, 1] bcast_S16x8_S16x8x1x1_0_1 l (ix4 b k (0 : Fin 1) (0 : Fin 1))) = _
  rw [e, if_neg]
  simp only [Bool.not_eq_true] at hneg
  simp [IntOp.cmpi, hneg]

/-- Every entry that names a frame is in range. -/
theorem inRange_at (l : IVec S16x8 32) (hl : ∀ j, (l j).toNat < 16) (j : S16x8.Idx) : inRange l j = 1#1 := by
  unfold inRange
  refine Host.reduce_andi_one _ _ _ _ j rfl fun i => ?_
  obtain ⟨b, k, z, rfl⟩ : ∃ (b : Fin 16) (k : Fin 8) (z : Fin 1), i = ix3 b k z := ⟨i 0, i 1, i 2, by
    funext a
    match a with
    | ⟨0, _⟩ => rfl
    | ⟨1, _⟩ => rfl
    | ⟨2, _⟩ => rfl⟩
  have hlt := hl (ix2 b k)
  show IntOp.cmpi .sge (starts l (ix3 b k z)) 0#32 &&& IntOp.cmpi .sle (starts l (ix3 b k z)) 15#32 = 1#1
  rw [starts_at l hl]
  have e1 : BitVec.sle 0#32 (l (ix2 b k)) = true := by
    rw [BitVec.sle_iff_toInt_le, BitVec.toInt_eq_toNat_of_lt (x := l (ix2 b k)) (by omega)]
    simp
  have e2 : BitVec.sle (l (ix2 b k)) 15#32 = true := by
    rw [BitVec.sle_iff_toInt_le, BitVec.toInt_eq_toNat_of_lt (x := l (ix2 b k)) (by omega)]
    have : (15#32).toInt = 15 := by decide
    rw [this]; omega
  simp [IntOp.cmpi, e1, e2]

/-- The frames taken, at an index: the argument at the frame that the list names. -/
theorem take_at (x : Arg) (l : IVec S16x8 32) (hl : ∀ j, (l j).toNat < 16) (b : Fin 16) (e : Fin 768) (k : Fin 8) (q : Fin 196) :
    take x l (ix4 b e k q) = x (ix4 b e ⟨(l (ix2 b k)).toNat, hl _⟩ q) := by
  unfold take
  rw [transpose_apply _ _ _ (ix4 b e k q) (ix4 b k e q) (fun a => by
    match a with
    | ⟨0, _⟩ => rfl
    | ⟨1, _⟩ => rfl
    | ⟨2, _⟩ => rfl
    | ⟨3, _⟩ => rfl)]
  have e1 : broadcastInDim S16x8x768x196 ![0, 1] bcast_S16x8_S16x8x768x196_0_1 (inRange l) (ix4 b k e q) = 1#1 := inRange_at l hl _
  show (if broadcastInDim S16x8x768x196 ![0, 1] bcast_S16x8_S16x8x768x196_0_1 (inRange l) (ix4 b k e q) = 1#1 then _ else _) = _
  rw [if_pos e1]
  have e2 : gather_S16x16x768x196_S16x8x1_S16x8x768x196_23_1_0_0_1_2_11768196.operandIdx (ix4 b k e q) (starts l)
      = ix4 b (⟨(l (ix2 b k)).toNat, hl _⟩ : Fin 16) e q := by
    have hsi : gather_S16x16x768x196_S16x8x1_S16x8x768x196_23_1_0_0_1_2_11768196.siIdx (ix4 b k e q) ⟨0, by decide⟩ = ix3 b k (0 : Fin 1) := by
      funext a; refine Fin.ext ?_
      match a with
      | ⟨0, _⟩ => rfl
      | ⟨1, _⟩ => rfl
      | ⟨2, _⟩ => rfl
    have hlt := hl (ix2 b k)
    have hst : gather_S16x16x768x196_S16x8x1_S16x8x768x196_23_1_0_0_1_2_11768196.start (ix4 b k e q) (starts l) (1 : Fin 4) = (l (ix2 b k)).toNat := by
      unfold GatherDims.start
      rw [dif_pos (by decide)]
      refine (congrArg (fun i => min (starts l i).toInt.toNat 15) hsi).trans ?_
      show min (starts l (ix3 b k 0)).toInt.toNat 15 = _
      rw [starts_at l hl, BitVec.toInt_eq_toNat_of_lt (by omega)]
      omega
    funext a; refine Fin.ext ?_
    match a with
    | ⟨0, _⟩ => exact show 0 + b.val + 0 = b.val by omega
    | ⟨1, _⟩ =>
      show gather_S16x16x768x196_S16x8x1_S16x8x768x196_23_1_0_0_1_2_11768196.start (ix4 b k e q) (starts l) (1 : Fin 4) + 0 + 0 = _
      rw [hst]; rfl
    | ⟨2, _⟩ => exact show 0 + 0 + e.val = e.val by omega
    | ⟨3, _⟩ => exact show 0 + 0 + q.val = q.val by omega
  show transpose S16x16x768x196 [0, 2, 1, 3] x transposes_S16x768x16x196_S16x16x768x196_0_2_1_3 (GatherDims.operandIdx _ (ix4 b k e q) (starts l)) = _
  rw [e2]
  exact transpose_apply _ _ _ _ _ fun a => by
    match a with
    | ⟨0, _⟩ => rfl
    | ⟨1, _⟩ => rfl
    | ⟨2, _⟩ => rfl
    | ⟨3, _⟩ => rfl

/-- The k-th of the frames in decreasing order of score, earlier first among equal scores. -/
abbrev order (s : FVec Ideal S16x16 .f32) (b : Fin 16) : Fin 16 → Fin 16 := sortedFrom (greater fun t : Fin 16 => s (ix2 b t))

theorem ofBool_beq (b : Bool) : (BitVec.ofBool b == 1#1) = b := by cases b <;> rfl

/-- Putting a coordinate on the second axis. -/
theorem along_row {m n : Nat} (b : Fin m) (k : Fin n) :
    (fun t : Fin n => Shape.Idx.along (s := ⟨2, ![m, n]⟩) (ix2 b k) (1 : Fin 2) t) = fun t => ix2 b t := by
  funext t a
  match a with
  | ⟨0, _⟩ => rfl
  | ⟨1, _⟩ => rfl

/-- A sort along the second axis, at an index. -/
theorem sort_row {m n : Nat} {α : Type} (cmp : α → α → BitVec 1) (x : (⟨2, ![m, n]⟩ : Shape).Idx → α) (b : Fin m) (k : Fin n) :
    Host.sort ⟨2, ![m, n]⟩ 1 cmp x (ix2 b k) = x (ix2 b (sortedFrom (fun t t' : Fin n => cmp (x (ix2 b t)) (x (ix2 b t')) == 1#1) k)) := by
  unfold Host.sort
  rw [dif_pos (show 1 < Shape.rank ⟨2, ![m, n]⟩ from Nat.one_lt_two)]
  exact congrArg (fun f : Fin n → (⟨2, ![m, n]⟩ : Shape).Idx => x (f (sortedFrom (fun t t' : Fin n => cmp (x (f t)) (x (f t')) == 1#1) k))) (along_row b k)

/-- The second operand of a sort of two along the second axis, at an index. -/
theorem sort2_row {m n : Nat} {α β : Type} (cmp : α × β → α × β → BitVec 1) (x : (⟨2, ![m, n]⟩ : Shape).Idx → α) (y : (⟨2, ![m, n]⟩ : Shape).Idx → β)
    (b : Fin m) (k : Fin n) :
    (Host.sort2 ⟨2, ![m, n]⟩ 1 cmp x y).2 (ix2 b k)
      = y (ix2 b (sortedFrom (fun t t' : Fin n => cmp (x (ix2 b t), y (ix2 b t)) (x (ix2 b t'), y (ix2 b t')) == 1#1) k)) := by
  unfold Host.sort2
  rw [dif_pos (show 1 < Shape.rank ⟨2, ![m, n]⟩ from Nat.one_lt_two)]
  exact congrArg (fun f : Fin n → (⟨2, ![m, n]⟩ : Shape).Idx =>
    y (f (sortedFrom (fun t t' : Fin n => cmp (x (f t), y (f t)) (x (f t'), y (f t')) == 1#1) k))) (along_row b k)

/-- The frames' numbers, sorted by decreasing score: at place k, the k-th frame in that order. -/
theorem sort_at (s : FVec Ideal S16x16 .f32) (idx : IVec S16x16 32) (hi : ∀ b t : Fin 16, idx (ix2 b t) = BitVec.ofNat 32 t.val) (b k : Fin 16) :
    (Host.sort2 S16x16 1 (fun l r : Ideal .f32 × BitVec 32 => FloatOps.cmpfTotal .gt l.1 r.1) s idx).2 (ix2 b k) = BitVec.ofNat 32 (order s b k).val := by
  refine (sort2_row _ s idx b k).trans ?_
  rw [hi]
  have h : (fun t t' : Fin 16 => FloatOps.cmpfTotal (F := Ideal) CmpDirection.gt (s (ix2 b t)) (s (ix2 b t')) == 1#1)
      = fun t t' : Fin 16 => decide (s (ix2 b t') < s (ix2 b t)) := by
    funext t t'
    exact ofBool_beq _
  rw [h, sortedFrom_greater]

/-- The first columns of a matrix, at an index. -/
theorem first_cols {m n p : Nat} {α : Type} (hp : p ≤ n) (x : (⟨2, ![m, n]⟩ : Shape).Idx → α)
    (h : (⟨2, ![m, n]⟩ : Shape).Slices (fun _ => 0) ⟨2, ![m, p]⟩) (b : Fin m) (k : Fin p) :
    extractStridedSlice ⟨2, ![m, p]⟩ (fun _ => 0) x h (ix2 b k) = x (ix2 b ⟨k.val, by omega⟩) := by
  unfold extractStridedSlice
  refine congrArg x (funext fun a => Fin.ext ?_)
  match a with
  | ⟨0, _⟩ => exact Nat.zero_add _
  | ⟨1, _⟩ => exact Nat.zero_add _

/-- The k-th entry of the top list is the k-th frame in decreasing order of score. -/
theorem best_at (s : FVec Ideal S16x16 .f32) (b : Fin 16) (k : Fin 8) :
    (Host.topK S16x8 1 (FloatOps.cmpfTotal .gt) s sliceFits_S16x16_S16x8).2 (ix2 b k) = BitVec.ofNat 32 (order s b ⟨k.val, by omega⟩).val :=
  (first_cols (by omega) (Host.sort2 S16x16 1 (fun l r : Ideal .f32 × BitVec 32 => FloatOps.cmpfTotal .gt l.1 r.1) s
    (fun i => if hd : 1 < S16x16.rank then iotaInDim S16x16 32 ⟨1, hd⟩ i else 0#32)).2 sliceFits_S16x16_S16x8 b k).trans
    (sort_at s (fun i => if hd : 1 < S16x16.rank then iotaInDim S16x16 32 ⟨1, hd⟩ i else 0#32) (fun b t => rfl) b ⟨k.val, by omega⟩)

/-- A row of the sorted list, at an entry: the k-th in increasing order of the frames that fewer than eight others beat. -/
theorem lists_at (s : FVec Ideal S16x16 .f32) (b : Fin 16) (k : Fin 8) :
    (lists s (ix2 b k)).toNat = kth (topHalf (greater fun t : Fin 16 => s (ix2 b t))) k.val := by
  have hn (j : Fin 16) : (BitVec.ofNat 32 j.val).toNat = j.val := Nat.mod_eq_of_lt (by omega)
  let w : Fin 8 → BitVec 32 := fun k => (Host.topK S16x8 1 (FloatOps.cmpfTotal .gt) s sliceFits_S16x16_S16x8).2 (ix2 b k)
  have hw k : (w k).toNat = (order s b ⟨k.val, by omega⟩).val := by
    show BitVec.toNat ((Host.topK S16x8 1 (FloatOps.cmpfTotal .gt) s sliceFits_S16x16_S16x8).2 (ix2 b k)) = _
    rw [best_at]; exact hn _
  have hlt k : (w k).toNat < 16 := by rw [hw]; exact Fin.isLt _
  have hinj : Function.Injective w := fun k k' h => by
    have h1 : (order s b ⟨k.val, by omega⟩).val = (order s b ⟨k'.val, by omega⟩).val := by rw [← hw, ← hw, h]
    have h2 := sortedFrom_injective _ (Fin.ext h1)
    exact Fin.ext (Fin.mk.inj h2)
  have hmono := sorted_words w hlt hinj
  have hl : lists s (ix2 b k) = w (sortedFrom (fun k k' => IntOp.cmpi .slt (w k) (w k') == 1#1) k) := by
    exact sort_row _ _ b k
  rw [hl]
  refine (kth_of_mono (topHalf (greater fun t : Fin 16 => s (ix2 b t))) _ hmono (fun j => ?_) k).symm
  rw [topHalf_iff]
  constructor
  · rintro ⟨i, hi, rfl⟩
    obtain ⟨k', hk'⟩ := sortedFrom_surjective (fun k k' => IntOp.cmpi .slt (w k) (w k') == 1#1) (⟨i.val, hi⟩ : Fin 8)
    refine ⟨k', Fin.ext ?_⟩
    show (w (sortedFrom _ k')).toNat = _
    rw [hk', hw]
  · rintro ⟨k', rfl⟩
    have hi (i : Fin 8) : ∃ k : Fin 16, k.val < 8 ∧ order s b k = ⟨(w i).toNat, hlt i⟩ :=
      ⟨⟨i.val, by omega⟩, i.isLt, Fin.ext (hw i).symm⟩
    exact hi _

/-- Every entry of the sorted list names a frame. -/
theorem lists_lt (s : FVec Ideal S16x16 .f32) (j : S16x8.Idx) : (lists s j).toNat < 16 := by
  obtain ⟨b, k, rfl⟩ : ∃ (b : Fin 16) (k : Fin 8), j = ix2 b k := ⟨j 0, j 1, eq_ix2 j⟩
  rw [lists_at]
  exact kth_lt _ _

end Cert.RefRead
-- ==== Proof.RefScore.lean ====
/- The reference's scores of an argument of reals: inner products of the squares' means. -/
module

public import proofs.«01_k».proof.Proof.RefRead
public import proofs.«01_k».proof.Proof.Squares
public import Idealize.ShloMosaic.Lib.ValueIdxRank6
public import Idealize.ShloMosaic.Lib.IdealHost
public import Idealize.ShloMosaic.Lib.StackMember
public import Mathlib.Tactic.Ring

@[expose] public section

noncomputable section

namespace Cert.RefRead

open Cert.ReferenceIdeal Cert.ReferenceIdeal.Gen Cert.Squares Idealize.ShloMosaic Idealize.ShloMosaic.StableHlo
open Idealize.ShloMosaic.Pipeline

/-- A rank-7 index from its coordinates. -/
abbrev at7 {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx :=
  fun i => match i with | ⟨0, _⟩ => a | ⟨1, _⟩ => b | ⟨2, _⟩ => c | ⟨3, _⟩ => d | ⟨4, _⟩ => e | ⟨5, _⟩ => f | ⟨6, _⟩ => g

/-- The place of a rank-7 index in its array's flat order. -/
theorem flat7 {d : Fin 7 → ℕ} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  rw [Shape.rowMajor_val_succ, Shape.rowMajor_val_six]
  simp [Shape.numel, Fin.prod_univ_succ, Nat.add_mul, Nat.mul_assoc, Nat.add_assoc]

theorem four_eq : Ideal.ofBits .f32 0x40800000#32 = ((4 : ℝ) : EReal) := by
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

/-- The factor of the inner products, as a real. -/
def factor : ℝ := 11184811 / 8589934592

theorem factor_eq : Ideal.ofBits .f32 0x3AAAAAAB#32 = (factor : EReal) := by
  simp [Ideal.ofBits, Ideal.ieee, factor, -EReal.coe_mul]; norm_num

/-- The sum over the squares' two inner axes. -/
theorem squares_at (v : FVec Ideal S16x16x768x7x2x7x2 .f32) (b t : Fin 16) (e : Fin 768) (p r : Fin 7) :
    Host.reduceAdd v (constant S_ .f32 0x00000000#32) reducesTo_S16x16x768x7x2x7x2_S16x16x768x7x7_d4_6 h_S_ (ValueIdx.ix5 b t e p r)
      = ∑ i : Fin 2, ∑ j : Fin 2, v (at7 b t e p i r j) := by
  refine (show _ = Ideal.ofBits .f32 0x00000000#32 + ∑ i ∈ Finset.univ.filter (fun i => reducesTo_S16x16x768x7x2x7x2_S16x16x768x7x7_d4_6.drop i = ValueIdx.ix5 b t e p r), v i from rfl).trans ?_
  rw [Ideal.ofBits_zero_f32, zero_add]
  refine (Cert.Reals.sum_fiber _ (fun k : Fin 2 × Fin 2 => (at7 b t e p k.1 r k.2 : S16x16x768x7x2x7x2.Idx)) (fun k k' h => Prod.ext (congrFun h 4) (congrFun h 6)) (fun i => ?_) v).trans
    (Fintype.sum_prod_type _)
  constructor
  · intro h
    refine ⟨(i 4, i 6), funext fun a => Fin.ext ?_⟩
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => rfl
    | ⟨5, _⟩ => exact (congrArg Fin.val (congrFun h 4)).symm
    | ⟨6, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

/-- The sum over the second frame. -/
theorem pairs_at (v : FVec Ideal S16x16x16 .f32) (b t : Fin 16) :
    Host.reduceAdd v (constant S_ .f32 0x00000000#32) reducesTo_S16x16x16_S16x16_d2 h_S_ (ValueIdx.ix2 b t) = ∑ s : Fin 16, v (ValueIdx.ix3 b t s) := by
  refine (show _ = Ideal.ofBits .f32 0x00000000#32 + ∑ i ∈ Finset.univ.filter (fun i => reducesTo_S16x16x16_S16x16_d2.drop i = ValueIdx.ix2 b t), v i from rfl).trans ?_
  rw [Ideal.ofBits_zero_f32, zero_add]
  refine Cert.Reals.sum_fiber _ (fun s : Fin 16 => (ValueIdx.ix3 b t s : S16x16x16.Idx)) (fun s s' h => congrFun h 2) (fun i => ?_) v
  constructor
  · intro h
    refine ⟨i 2, funext fun a => Fin.ext ?_⟩
    match a with
    | ⟨0, _⟩ => exact (congrArg Fin.val (congrFun h 0)).symm
    | ⟨1, _⟩ => exact (congrArg Fin.val (congrFun h 1)).symm
    | ⟨2, _⟩ => rfl
  · rintro ⟨s, rfl⟩
    funext a
    match a with
    | ⟨0, _⟩ => rfl
    | ⟨1, _⟩ => rfl

/-- The argument as squares, at an index. -/
theorem split_at (x : Arg) (b t : Fin 16) (e : Fin 768) (p r : Fin 7) (i j : Fin 2) :
    shapeCast S16x16x768x7x2x7x2 (transpose S16x16x768x14x14 [0, 2, 1, 3, 4] (shapeCast S16x768x16x14x14 x shapeCasts_S16x768x16x196_S16x768x16x14x14) transposes_S16x768x16x14x14_S16x16x768x14x14_0_2_1_3_4) shapeCasts_S16x16x768x14x14_S16x16x768x7x2x7x2 (at7 b t e p i r j)
      = x (ValueIdx.ix4 b e t (pos p i r j)) := by
  rw [shapeCast_apply _ _ (at7 b t e p i r j) (ValueIdx.ix5 b t e (⟨p.val * 2 + i.val, by omega⟩ : Fin 14) (⟨r.val * 2 + j.val, by omega⟩ : Fin 14)) (by
    rw [Shape.rowMajor_val_five, flat7]
    show (((b.val * 16 + t.val) * 768 + e.val) * 14 + (p.val * 2 + i.val)) * 14 + (r.val * 2 + j.val)
      = (((((b.val * 16 + t.val) * 768 + e.val) * 7 + p.val) * 2 + i.val) * 7 + r.val) * 2 + j.val
    ring)]
  rw [transpose_apply _ _ _ _ (ValueIdx.ix5 b e t (⟨p.val * 2 + i.val, by omega⟩ : Fin 14) (⟨r.val * 2 + j.val, by omega⟩ : Fin 14)) (fun a => by
    match a with
    | ⟨0, _⟩ => rfl
    | ⟨1, _⟩ => rfl
    | ⟨2, _⟩ => rfl
    | ⟨3, _⟩ => rfl
    | ⟨4, _⟩ => rfl)]
  refine shapeCast_apply _ _ _ _ ?_
  rw [Shape.rowMajor_val_five, Shape.rowMajor_val_four]
  show ((b.val * 768 + e.val) * 16 + t.val) * 196 + ((p.val * 2 + i.val) * 14 + (r.val * 2 + j.val))
    = (((b.val * 768 + e.val) * 16 + t.val) * 14 + (p.val * 2 + i.val)) * 14 + (r.val * 2 + j.val)
  ring

/-- The feature of channel `e` at the square (p, r). -/
def feature (p r : Fin 7) (e : Fin 768) : Fin 37632 := ⟨(p.val * 7 + r.val) * 768 + e.val, by omega⟩

/-- A sum over the features, square by square. -/
theorem sum_features {M : Type} [AddCommMonoid M] (f : Fin 37632 → M) : ∑ n, f n = ∑ p : Fin 7, ∑ r : Fin 7, ∑ e : Fin 768, f (feature p r e) := by
  rw [Cert.Reals.sum_split (m := 49) (k := 768) rfl f, Cert.Reals.sum_split (m := 7) (k := 7) rfl]
  rfl

/-- The weight the reference adds to a frame's score, of the frame's parity. -/
theorem parity_real : ∀ c : Fin 2, Ideal.ofBits .f32 (lit0 c) = ((if c.val = 0 then 1 else 0 : ℝ) : EReal)
  | 0 => by
    show Ideal.ofBits .f32 0x3F800000#32 = _
    rw [Ideal.ofBits_one_f32]; simp
  | 1 => by
    show Ideal.ofBits .f32 0x00000000#32 = _
    rw [Ideal.ofBits_zero_f32]; simp

/-- What is added to a frame's score: one on the even frames. -/
theorem prior_real (b t : Fin 16) :
    broadcastInDim S16x16 ![0, 1] bcast_S1x16_S16x16_0_1 (broadcastInDim S1x16 ![1] bcast_S16_S1x16_1 (shapeCast S16 (broadcastInDim S8x2 ![0, 1] bcast_S1x2_S8x2_0_1 (shapeCast S1x2 ((fun i => FloatOps.ofBits (F := Ideal) .f32 (lit0 (S2.rowMajor i)))) shapeCasts_S2_S1x2)) shapeCasts_S8x2_S16)) (ValueIdx.ix2 b t)
      = ((if t.val % 2 = 0 then 1 else 0 : ℝ) : EReal) := by
  rw [broadcastInDim_apply _ _ _ _ (ValueIdx.ix2 (0 : Fin 1) t) (fun a => by
    match a with
    | ⟨0, _⟩ => simp
    | ⟨1, _⟩ => simp)]
  rw [broadcastInDim_apply _ _ _ _ (ValueIdx.ix1 t) (fun a => by
    match a with
    | ⟨0, _⟩ => simp)]
  rw [shapeCast_apply _ _ (ValueIdx.ix1 t) (ValueIdx.ix2 (⟨t.val / 2, by omega⟩ : Fin 8) (⟨t.val % 2, by omega⟩ : Fin 2)) (by
    rw [Shape.rowMajor_val_two, Shape.rowMajor_val_one]
    show t.val / 2 * 2 + t.val % 2 = t.val
    omega)]
  rw [broadcastInDim_apply _ _ _ _ (ValueIdx.ix2 (0 : Fin 1) (⟨t.val % 2, by omega⟩ : Fin 2)) (fun a => by
    match a with
    | ⟨0, _⟩ => simp
    | ⟨1, _⟩ => simp)]
  rw [shapeCast_apply _ _ _ (ValueIdx.ix1 (⟨t.val % 2, by omega⟩ : Fin 2)) (by
    rw [Shape.rowMajor_val_two, Shape.rowMajor_val_one]
    show t.val % 2 = 0 * 2 + t.val % 2
    omega)]
  have h : S2.rowMajor (ValueIdx.ix1 (⟨t.val % 2, by omega⟩ : Fin 2)) = (⟨t.val % 2, by omega⟩ : Fin 2) :=
    Fin.ext (Shape.rowMajor_val_one _)
  exact (congrArg (fun c : Fin 2 => Ideal.ofBits .f32 (lit0 c)) h).trans (parity_real _)

variable (x : Arg) (X : Fin 16 → Fin 768 → Fin 16 → Fin 196 → ℝ) (hx : ∀ b e t q, x (ValueIdx.ix4 b e t q) = (X b e t q : EReal))

include hx

/-- A pooled feature: the mean of its square's four values. -/
theorem pooled_real (b t : Fin 16) (p r : Fin 7) (e : Fin 768) :
    pooled x (ValueIdx.ix3 b t (feature p r e)) = ((square (X b e) t p r * (1 / 4) : ℝ) : EReal) := by
  unfold pooled
  rw [shapeCast_apply _ _ (ValueIdx.ix3 b t (feature p r e)) (ValueIdx.ix5 b t p r e) (by
    rw [Shape.rowMajor_val_five, Shape.rowMajor_val_three]
    show (((b.val * 16 + t.val) * 7 + p.val) * 7 + r.val) * 768 + e.val = (b.val * 16 + t.val) * 37632 + ((p.val * 7 + r.val) * 768 + e.val)
    ring)]
  rw [transpose_apply _ _ _ _ (ValueIdx.ix5 b t e p r) (fun a => by
    match a with
    | ⟨0, _⟩ => rfl
    | ⟨1, _⟩ => rfl
    | ⟨2, _⟩ => rfl
    | ⟨3, _⟩ => rfl
    | ⟨4, _⟩ => rfl)]
  refine (show _ = Ideal.div (Host.reduceAdd (F := Ideal) (φ := .f32) _ (constant S_ .f32 0x00000000#32) reducesTo_S16x16x768x7x2x7x2_S16x16x768x7x7_d4_6 h_S_ (ValueIdx.ix5 b t e p r)) (Ideal.ofBits .f32 0x40800000#32) from rfl).trans ?_
  rw [squares_at, four_eq, Ideal.div_coe (by norm_num), EReal.coe_mul, square, Cert.Reals.coe_sum]
  refine congrArg (· * (((1 / 4 : ℝ)) : EReal)) (Finset.sum_congr rfl fun i _ => ?_)
  rw [Cert.Reals.coe_sum]
  refine Finset.sum_congr rfl fun j _ => ?_
  rw [split_at, hx]

/-- The product of the scaled features with the features, at two frames. -/
theorem product_real (b t s : Fin 16) :
    Host.dotGeneral dot_S16x16x37632_S16x37632x16_S16x16x16_2_1_1_2_0_0 none (mulf (broadcastInDim S16x16x37632 ![] bcast_S_S16x16x37632 (constant S_ .f32 0x3AAAAAAB#32)) (pooled x)) (transpose S16x37632x16 [0, 2, 1] (pooled x) transposes_S16x16x37632_S16x37632x16_0_2_1) (ValueIdx.ix3 b t s)
      = ((∑ p : Fin 7, ∑ r : Fin 7, ∑ e : Fin 768, factor * (square (X b e) t p r * (1 / 4)) * (square (X b e) s p r * (1 / 4)) : ℝ) : EReal) := by
  refine (StackMember.dotGeneral_stack_apply _ none _ _ b t s).trans ?_
  rw [sum_features, Cert.Reals.coe_sum]
  refine Finset.sum_congr rfl fun p _ => ?_
  rw [Cert.Reals.coe_sum]
  refine Finset.sum_congr rfl fun r _ => ?_
  rw [Cert.Reals.coe_sum]
  refine Finset.sum_congr rfl fun e _ => ?_
  rw [transpose_apply _ _ _ _ (ValueIdx.ix3 b s (feature p r e)) (fun a => by
    match a with
    | ⟨0, _⟩ => rfl
    | ⟨1, _⟩ => rfl
    | ⟨2, _⟩ => rfl)]
  refine (show _ = Ideal.ofBits .f32 0x3AAAAAAB#32 * pooled x (ValueIdx.ix3 b t (feature p r e)) * pooled x (ValueIdx.ix3 b s (feature p r e)) from rfl).trans ?_
  rw [factor_eq, pooled_real x X hx, pooled_real x X hx]
  simp only [EReal.coe_mul]

/-- A frame's score: a sixteenth of its scaled inner products with every frame, and one on the even frames. -/
theorem scores_real (b t : Fin 16) :
    scores x (ValueIdx.ix2 b t)
      = (((∑ s : Fin 16, ∑ p : Fin 7, ∑ r : Fin 7, ∑ e : Fin 768, factor * (square (X b e) t p r * (1 / 4)) * (square (X b e) s p r * (1 / 4))) * (1 / 16)
          + (if t.val % 2 = 0 then 1 else 0) : ℝ) : EReal) := by
  rw [EReal.coe_add, EReal.coe_mul, ← prior_real b t]
  unfold scores
  refine congrArg (· + _) ?_
  refine (show _ = Ideal.div (Host.reduceAdd (F := Ideal) (φ := .f32) _ (constant S_ .f32 0x00000000#32) reducesTo_S16x16x16_S16x16_d2 h_S_ (ValueIdx.ix2 b t)) (Ideal.ofBits .f32 0x41800000#32) from rfl).trans ?_
  rw [pairs_at, sixteen_eq, Ideal.div_coe (by norm_num), Cert.Reals.coe_sum]
  exact congrArg (· * ((1 / 16 : ℝ) : EReal)) (Finset.sum_congr rfl fun s _ => product_real x X hx b t s)

end Cert.RefRead
-- ==== Proof.Equal.lean ====
/- The two programs' scores are equal at an argument of finite values, so they pick the same frames. -/
module

public import proofs.«01_k».proof.Pre_finite
public import proofs.«01_k».proof.Proof.KernelIdeal.Total
public import proofs.«01_k».proof.Proof.KernelIdeal.Run
public import proofs.«01_k».proof.Proof.KernelIdeal.SelRead
public import proofs.«01_k».proof.Proof.RefScore

@[expose] public section

noncomputable section

namespace Cert.Equal

open Cert.Squares Cert.Select Idealize.ShloMosaic Idealize.ShloMosaic.TcCoe

/-- The shape facts of the precondition. -/
theorem preFacts : Cert.Pre_finite.Facts where
  bcast_S_S16x768x16x196 := by decide
  reducesTo_S16x768x16x196_S_d0_1_2_3 := by decide
  h_S_ := by decide

theorem infinity_eq : Ideal.ofBits .f32 0x7F800000#32 = (⊤ : EReal) := by
  simp [Ideal.ofBits, Ideal.ieee]

/-- An argument that passes the precondition is real at every index. -/
theorem finite_real [Cert.Pre_finite.Facts] (x : FVec Ideal Cert.Pre_finite.S16x768x16x196 .f32) (h : Cert.Pre_finite.fn (F := Ideal) x = fun _ => 1#1)
    (i : Cert.Pre_finite.S16x768x16x196.Idx) : x i = ((EReal.toReal (x i) : ℝ) : EReal) := by
  haveI : Subsingleton Cert.Pre_finite.S_.Idx := ⟨fun a b => funext fun d => d.elim0⟩
  have e := Host.reduce_andi_all _ _ _ _ (fun d => d.elim0) (congrFun h (fun d => d.elim0)) i
  have hlt : max (x i) (-(x i)) < (⊤ : EReal) := by
    rw [← infinity_eq]
    by_contra hn
    have : BitVec.ofBool (decide (max (x i) (-(x i)) < Ideal.ofBits .f32 0x7F800000#32)) = 1#1 := e
    rw [decide_eq_false hn] at this
    exact absurd this (by decide)
  refine (EReal.coe_toReal (ne_of_lt (lt_of_le_of_lt (le_max_left _ _) hlt)) fun hb => ?_).symm
  rw [hb] at hlt
  simp at hlt

/-- The kernel's sum of a channel's parts, scaled, is the reference's mean of its scaled inner products. -/
theorem sums_eq (f : Fin 768 → Fin 16 → Fin 196 → ℝ) (t : Fin 16) :
    (∑ e : Fin 768, ∑ s : Fin 16, ∑ p : Fin 7, ∑ r : Fin 7, square (f e) t p r * square (f e) s p r) * Cert.KernelIdeal.Value.scale
      = (∑ s : Fin 16, ∑ p : Fin 7, ∑ r : Fin 7, ∑ e : Fin 768, Cert.RefRead.factor * (square (f e) t p r * (1 / 4)) * (square (f e) s p r * (1 / 4))) * (1 / 16) := by
  rw [Finset.sum_comm, Finset.sum_mul, Finset.sum_mul]
  refine Finset.sum_congr rfl fun s _ => ?_
  rw [Finset.sum_comm, Finset.sum_mul, Finset.sum_mul]
  refine Finset.sum_congr rfl fun p _ => ?_
  rw [Finset.sum_comm, Finset.sum_mul, Finset.sum_mul]
  refine Finset.sum_congr rfl fun r _ => ?_
  rw [Finset.sum_mul, Finset.sum_mul]
  refine Finset.sum_congr rfl fun e _ => ?_
  unfold Cert.KernelIdeal.Value.scale Cert.RefRead.factor
  ring

/-- In decreasing order a frame goes before another just when it beats it in the kernel's first selection. -/
theorem beats_greater (s : FVec Ideal Cert.KernelIdeal.S1x1x16 .f32) :
    Cert.KernelIdeal.Score.beats (F := Ideal) .ogt s = greater fun t : Fin 16 => s (ValueIdx.ix3 (0 : Fin 1) (0 : Fin 1) t) := by
  funext j i
  exact congrArg₂ (fun a b : Bool => a || (b && decide (j < i))) (Cert.RefRead.ofBool_beq _) (Cert.RefRead.ofBool_beq _)

/-- And among the negated scores, just when it beats it in the second. -/
theorem beats_less (s : FVec Ideal Cert.KernelIdeal.S1x1x16 .f32) :
    Cert.KernelIdeal.Score.beats (F := Ideal) .olt s = greater fun t : Fin 16 => -(s (ValueIdx.ix3 (0 : Fin 1) (0 : Fin 1) t) : EReal) := by
  funext j i
  refine (congrArg₂ (fun a b : Bool => a || (b && decide (j < i))) (Cert.RefRead.ofBool_beq _) (Cert.RefRead.ofBool_beq _)).trans ?_
  unfold greater
  refine congrArg₂ (fun a b : Bool => a || (b && decide (j < i))) (decide_eq_decide.2 ?_) (decide_eq_decide.2 ?_)
  · exact (EReal.neg_lt_neg_iff).symm
  · exact (neg_inj).symm

variable (V : (c : Dev Cert.KernelIdeal.nD) → (b : Ref Cert.KernelIdeal.sig .tc) → Buf (Elt Ideal) ((c : Thread Cert.KernelIdeal.nD Cert.KernelIdeal.τ).loc b))
  (c : Dev Cert.KernelIdeal.nD) (x : Cert.RefRead.Arg) (hV : V c Cert.KernelIdeal.main_arg0 = x)
  (X : Fin 16 → Fin 768 → Fin 16 → Fin 196 → ℝ) (hx : ∀ b e t q, x (ValueIdx.ix4 b e t q) = (X b e t q : EReal))

include hV hx

/-- The two programs' scores are equal. -/
theorem score_eq (b t : Fin 16) :
    (Cert.KernelIdeal.Arrays.score V c b : FVec Ideal Cert.KernelIdeal.S1x1x16 .f32) (ValueIdx.ix3 (0 : Fin 1) (0 : Fin 1) t) = Cert.RefRead.scores x (ValueIdx.ix2 b t) := by
  subst hV
  rw [Cert.KernelIdeal.Value.score_real V c X hx b t, Cert.RefRead.scores_real _ X hx b t, sums_eq]
  rfl

/-- The kernel's first list is the reference's. -/
theorem listA_eq (b : Fin 16) (k : Fin 8) :
    ((Cert.KernelIdeal.Arrays.listA V c (ValueIdx.ix3 b (0 : Fin 1) (⟨k.val, by omega⟩ : Fin 16)) : BitVec 32)).toNat
      = (Cert.RefRead.lists (Cert.RefRead.scores x) (ValueIdx.ix2 b k)).toNat := by
  rw [Cert.RefRead.lists_at]
  refine (Cert.KernelIdeal.Score.selA_at (F := Ideal) (Cert.KernelIdeal.Arrays.score V c b) ⟨k.val, by omega⟩).trans ?_
  rw [beats_greater, show (fun t : Fin 16 => (Cert.KernelIdeal.Arrays.score V c b : FVec Ideal Cert.KernelIdeal.S1x1x16 .f32) (ValueIdx.ix3 (0 : Fin 1) (0 : Fin 1) t)) = _ from
    funext fun t => score_eq V c x hV X hx b t]
  exact congrArg (kth _) (Nat.mod_eq_of_lt k.isLt)

/-- The kernel's second list is the reference's. -/
theorem listD_eq (b : Fin 16) (k : Fin 8) :
    ((Cert.KernelIdeal.Arrays.listD V c (ValueIdx.ix3 b (0 : Fin 1) (⟨k.val, by omega⟩ : Fin 16)) : BitVec 32)).toNat
      = (Cert.RefRead.lists (Host.negf (F := Ideal) (Cert.RefRead.scores x)) (ValueIdx.ix2 b k)).toNat := by
  rw [Cert.RefRead.lists_at]
  refine (Cert.KernelIdeal.Score.selD_at (F := Ideal) (Cert.KernelIdeal.Arrays.score V c b) ⟨k.val, by omega⟩).trans ?_
  rw [beats_less, show (fun t : Fin 16 => -((Cert.KernelIdeal.Arrays.score V c b : FVec Ideal Cert.KernelIdeal.S1x1x16 .f32) (ValueIdx.ix3 (0 : Fin 1) (0 : Fin 1) t) : EReal)) = fun t => -(Cert.RefRead.scores x (ValueIdx.ix2 b t) : EReal) from
    funext fun t => congrArg Neg.neg (score_eq V c x hV X hx b t)]
  exact congrArg (kth _) (Nat.mod_eq_of_lt k.isLt)

omit hV hx in
/-- Frames picked along two lists that agree are equal. -/
theorem picked_eq (a : IVec Cert.KernelIdeal.S16x1x16 32) (l : IVec Cert.ReferenceIdeal.S16x8 32) (hl : ∀ j, (l j).toNat < 16)
    (h : ∀ (b : Fin 16) (k : Fin 8), (a (ValueIdx.ix3 b (0 : Fin 1) (⟨k.val, by omega⟩ : Fin 16))).toNat = (l (ValueIdx.ix2 b k)).toNat) :
    Cert.KernelIdeal.Arrays.picked (F := Ideal) x (shapeCast Cert.KernelIdeal.S256 a Cert.KernelIdeal.Gen.shapeCasts_S16x1x16_S256) = Cert.RefRead.take x l := by
  funext i
  obtain ⟨b, e, k, q, rfl⟩ : ∃ (b : Fin 16) (e : Fin 768) (k : Fin 8) (q : Fin 196), i = ValueIdx.ix4 b e k q := ⟨i 0, i 1, i 2, i 3, ValueIdx.eq_ix4 i⟩
  rw [Cert.RefRead.take_at x l hl]
  have ea : shapeCast Cert.KernelIdeal.S256 a Cert.KernelIdeal.Gen.shapeCasts_S16x1x16_S256 (ValueIdx.ix1 (Fin.ofNat 256 (b.val * 16 + k.val)))
      = a (ValueIdx.ix3 b (0 : Fin 1) (⟨k.val, by omega⟩ : Fin 16)) :=
    shapeCast_apply _ _ _ _ (by
      rw [Shape.rowMajor_val_three, Shape.rowMajor_val_one]
      show (b.val * 1 + 0) * 16 + k.val = (b.val * 16 + k.val) % 256
      omega)
  refine congrArg (fun t : Fin 16 => x (ValueIdx.ix4 b e t q)) (Fin.ext ?_)
  refine (congrArg (fun w : BitVec 32 => w.toNat % 16) ea).trans ?_
  rw [h]
  exact Nat.mod_eq_of_lt (hl _)

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, its argument ends as launched, and every counter is at zero: it declares no semaphore. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  θ_run_mono (Cert.ReferenceIdeal.Value.run m g) fun r h => ⟨fun c => (h c).2.2, sem_eq_zero_of_no_sems (by decide) r.2⟩

theorem claim : Cert.Claim := by
  refine ⟨Cert.Kernel.Gen.facts, Cert.KernelIdeal.Gen.facts, Cert.ReferenceIdeal.Gen.facts, Cert.Equal.preFacts, ?_, ?_, ?_, ?_, ?_, trivial, ?_⟩
  · intro m g _
    exact θ_run_mono (Cert.Kernel.Run.run m g) fun r h => ⟨fun c => (h.1 c).1, h.2⟩
  · intro m g _
    exact θ_run_mono (Cert.KernelIdeal.Run.run m g) fun r h => ⟨fun c => (h.1 c).1, h.2⟩
  · intro m g _
    exact θ_run_mono (Cert.KernelIdeal.Run.run m g) fun r h => ⟨fun c => (h.1 c).1, h.2⟩
  · intro m g _
    exact refFrame m g
  · intro m g _
    exact refFrame m g
  · intro m g m' g' hfin harg
    haveI := Cert.Equal.preFacts
    have hx (c : Dev Cert.KernelIdeal.nD) (b : Fin 16) (e : Fin 768) (t : Fin 16) (q : Fin 196) :=
      Cert.Equal.finite_real (m ((c.tc : Thread Cert.KernelIdeal.nD Cert.KernelIdeal.τ).loc Cert.KernelIdeal.main_arg0)) (hfin c) (ValueIdx.ix4 b e t q)
    refine ⟨_, _, θ_run_mono (Cert.KernelIdeal.Run.run m g) fun r h c => ⟨(h.1 c).2.1.trans ?_, (h.1 c).2.2.trans ?_, (h.1 c).1⟩,
      θ_run_mono (Cert.ReferenceIdeal.Value.run m' g') fun r h c => ⟨(h c).1, (h c).2.1, (h c).2.2⟩⟩
    · rw [Cert.KernelIdeal.Run.result0, Cert.RefRead.res0, harg c]
      exact Cert.Equal.picked_eq _ _ _ (Cert.RefRead.lists_lt _) (Cert.Equal.listA_eq (Cert.KernelIdeal.Run.ent0 m) c _ rfl _ (hx c))
    · rw [Cert.KernelIdeal.Run.result1, Cert.RefRead.res1, harg c]
      exact Cert.Equal.picked_eq _ _ _ (Cert.RefRead.lists_lt _) (Cert.Equal.listD_eq (Cert.KernelIdeal.Run.ent0 m) c _ rfl _ (hx c))

end Cert.Proof

end
